-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Kernel_KernelIdeal : Prop :=
  True

def algebraic_KernelIdeal_ReferenceIdeal_on_rows_of_tiles [hKernelIdeal : Cert.KernelIdeal.Facts] [hReferenceIdeal : Cert.ReferenceIdeal.Facts] [hPre_pre : Cert.Pre_pre.Facts] [hOn_rows_of_tiles : Cert.On_rows_of_tiles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![51200, 2048]⟩ : Shape).Idx, (Cert.On_rows_of_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![51200, 2048]⟩ : Shape).Idx, (Cert.On_rows_of_tiles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v3) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v1_0)) (v1 : (c : Dev Cert.QuantIdeal.nD) → Buf (Elt Ideal) ((c.tc : Thread Cert.QuantIdeal.nD Cert.QuantIdeal.τ).loc Cert.QuantIdeal.main_v1_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v1_0) = v0 c
          ∧ r.2.mem ((c.tc : Thread Cert.QuantIdeal.nD Cert.QuantIdeal.τ).loc Cert.QuantIdeal.main_v1_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v1_0) = v0 c
          ∧ r.2.mem ((c.tc : Thread Cert.QuantReferenceIdeal.nD Cert.QuantReferenceIdeal.τ).loc Cert.QuantReferenceIdeal.main_v1_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v20)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v20) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v29) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hCombine : Cert.Combine.Facts) (hCombineIdeal : Cert.CombineIdeal.Facts) (hCombineReferenceIdeal : Cert.CombineReferenceIdeal.Facts) (hPre_pre : Cert.Pre_pre.Facts) (hOn_rows_of_tiles : Cert.On_rows_of_tiles.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ quiescent_Quant (hQuant := hQuant)
    ∧ quiescent_QuantIdeal (hQuantIdeal := hQuantIdeal)
    ∧ quiescent_QuantReferenceIdeal (hQuantReferenceIdeal := hQuantReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ preserves_Kernel_KernelIdeal
    ∧ algebraic_KernelIdeal_ReferenceIdeal_on_rows_of_tiles (hKernelIdeal := hKernelIdeal) (hReferenceIdeal := hReferenceIdeal) (hPre_pre := hPre_pre) (hOn_rows_of_tiles := hOn_rows_of_tiles)
    ∧ preserves_Quant_QuantIdeal
    ∧ algebraic_QuantIdeal_QuantReferenceIdeal (hQuantIdeal := hQuantIdeal) (hQuantReferenceIdeal := hQuantReferenceIdeal)
    ∧ preserves_Combine_CombineIdeal
    ∧ algebraic_CombineIdeal_CombineReferenceIdeal (hCombineIdeal := hCombineIdeal) (hCombineReferenceIdeal := hCombineReferenceIdeal)
-- ==== On_rows_of_tiles.lean ====
abbrev S200 : Shape := ⟨1, ![200]⟩
abbrev S1 : Shape := ⟨1, ![1]⟩
abbrev S51200x2048 : Shape := ⟨2, ![51200, 2048]⟩
abbrev S51200x1 : Shape := ⟨2, ![51200, 1]⟩
abbrev S8x8192x2048 : Shape := ⟨3, ![8, 8192, 2048]⟩
abbrev S8x1x8192 : Shape := ⟨3, ![8, 1, 8192]⟩
abbrev S8x2048x4096 : Shape := ⟨3, ![8, 2048, 4096]⟩
abbrev S8x1x2048 : Shape := ⟨3, ![8, 1, 2048]⟩
abbrev S_ : Shape := ⟨0, ![]⟩
abbrev S1x1 : Shape := ⟨2, ![1, 1]⟩

class Facts : Prop where
  bcast_S_S51200x2048 : S_.BroadcastsInDim S51200x2048 (![] : Fin 0 → Fin S51200x2048.rank)
  bcast_S1_S1x1_1 : S1.BroadcastsInDim S1x1 (![1] : Fin 1 → Fin S1x1.rank)
  bcast_S1x1_S51200x2048_0_1 : S1x1.BroadcastsInDim S51200x2048 (![0, 1] : Fin 2 → Fin S51200x2048.rank)

variable [Facts]

def fn {F : FTy → Type} [FloatOps F] (main_arg0 : IVec S200 32) (main_arg1 : IVec S1 32) (main_arg2 : FVec F S51200x2048 .fp8e4m3) (main_arg3 : FVec F S51200x1 .f32) (main_arg4 : FVec F S8x8192x2048 .fp8e4m3) (main_arg5 : FVec F S8x1x8192 .f32) (main_arg6 : FVec F S8x2048x4096 .fp8e4m3) (main_arg7 : FVec F S8x1x2048 .f32) : IVec S51200x2048 1 :=
  let main_v0 : IVec S51200x2048 32 := iotaInDim S51200x2048 32 0
  let main_c : IVec S_ 32 := constantI S_ 32 256#32
  let main_v1 : IVec S51200x2048 32 := broadcastInDim S51200x2048 ![] bcast_S_S51200x2048 main_c
  let main_v2 : IVec S51200x2048 32 := Host.divsi main_v0 main_v1
  let main_v3 : IVec S1x1 32 := broadcastInDim S1x1 ![1] bcast_S1_S1x1_1 main_arg1
  let main_v4 : IVec S51200x2048 32 := broadcastInDim S51200x2048 ![0, 1] bcast_S1x1_S51200x2048_0_1 main_v3
  let main_v5 : IVec S51200x2048 1 := cmpi .slt main_v2 main_v4
  main_v5
-- ==== Pre_pre.lean ====
abbrev S200 : Shape := ⟨1, ![200]⟩
abbrev S1 : Shape := ⟨1, ![1]⟩
abbrev S51200x2048 : Shape := ⟨2, ![51200, 2048]⟩
abbrev S51200x1 : Shape := ⟨2, ![51200, 1]⟩
abbrev S8x8192x2048 : Shape := ⟨3, ![8, 8192, 2048]⟩
abbrev S8x1x8192 : Shape := ⟨3, ![8, 1, 8192]⟩
abbrev S8x2048x4096 : Shape := ⟨3, ![8, 2048, 4096]⟩
abbrev S8x1x2048 : Shape := ⟨3, ![8, 1, 2048]⟩
abbrev S_ : Shape := ⟨0, ![]⟩

class Facts : Prop where
  bcast_S_S200 : S_.BroadcastsInDim S200 (![] : Fin 0 → Fin S200.rank)
  reducesTo_S200_S_d0 : S200.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S200 32) (main_arg1 : IVec S1 32) (main_arg2 : FVec F S51200x2048 .fp8e4m3) (main_arg3 : FVec F S51200x1 .f32) (main_arg4 : FVec F S8x8192x2048 .fp8e4m3) (main_arg5 : FVec F S8x1x8192 .f32) (main_arg6 : FVec F S8x2048x4096 .fp8e4m3) (main_arg7 : FVec F S8x1x2048 .f32) : IVec S_ 1 :=
  let main_c : IVec S_ 32 := constantI S_ 32 0#32
  let main_v0 : IVec S200 32 := broadcastInDim S200 ![] bcast_S_S200 main_c
  let main_v1 : IVec S200 1 := cmpi .sge main_arg0 main_v0
  let main_c_0 : IVec S_ 32 := constantI S_ 32 8#32
  let main_v2 : IVec S200 32 := broadcastInDim S200 ![] bcast_S_S200 main_c_0
  let main_v3 : IVec S200 1 := cmpi .slt main_arg0 main_v2
  let main_v4 : IVec S200 1 := andi main_v1 main_v3
  let main_c_1 : IVec S_ 1 := constantI S_ 1 1#1
  let main_v5 : IVec S_ 1 := (fun x v => Host.reduce IntOp.andi x v reducesTo_S200_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S200 : Shape := ⟨1, ![200]⟩
abbrev S1 : Shape := ⟨1, ![1]⟩
abbrev S51200x2048 : Shape := ⟨2, ![51200, 2048]⟩
abbrev S51200x1 : Shape := ⟨2, ![51200, 1]⟩
abbrev S8x8192x2048 : Shape := ⟨3, ![8, 8192, 2048]⟩
abbrev S8x1x8192 : Shape := ⟨3, ![8, 1, 8192]⟩
abbrev S8x2048x4096 : Shape := ⟨3, ![8, 2048, 4096]⟩
abbrev S8x1x2048 : Shape := ⟨3, ![8, 1, 2048]⟩
abbrev S256x2048 : Shape := ⟨2, ![256, 2048]⟩
abbrev S256x1 : Shape := ⟨2, ![256, 1]⟩
abbrev S1x8192x2048 : Shape := ⟨3, ![1, 8192, 2048]⟩
abbrev S1x1x8192 : Shape := ⟨3, ![1, 1, 8192]⟩
abbrev S1x2048x4096 : Shape := ⟨3, ![1, 2048, 4096]⟩
abbrev S1x1x2048 : Shape := ⟨3, ![1, 1, 2048]⟩
abbrev S256x4096 : Shape := ⟨2, ![256, 4096]⟩
abbrev S1x512x2048 : Shape := ⟨3, ![1, 512, 2048]⟩
abbrev S512x2048 : Shape := ⟨2, ![512, 2048]⟩
abbrev S256x512 : Shape := ⟨2, ![256, 512]⟩
abbrev S1x1x512 : Shape := ⟨3, ![1, 1, 512]⟩
abbrev S1x512 : Shape := ⟨2, ![1, 512]⟩
abbrev S256 : Shape := ⟨1, ![256]⟩
abbrev S1x252 : Shape := ⟨2, ![1, 252]⟩
abbrev S256x252 : Shape := ⟨2, ![256, 252]⟩
abbrev S1x512x4096 : Shape := ⟨3, ![1, 512, 4096]⟩
abbrev S512x4096 : Shape := ⟨2, ![512, 4096]⟩

abbrev nBuf : Space → Nat
  | .hbm => 7
  | .vmem => 15
  | .smem => 2
  | _ => 0

abbrev bufTy : (tb : Table) → Fin (tcTables nBuf tb) → BufTy
  | .hbm, ⟨0, _⟩ => ⟨S51200x2048, .fp8e4m3⟩
  | .hbm, ⟨1, _⟩ => ⟨S51200x1, .f32⟩
  | .hbm, ⟨2, _⟩ => ⟨S8x8192x2048, .fp8e4m3⟩
  | .hbm, ⟨3, _⟩ => ⟨S8x1x8192, .f32⟩
  | .hbm, ⟨4, _⟩ => ⟨S8x2048x4096, .fp8e4m3⟩
  | .hbm, ⟨5, _⟩ => ⟨S8x1x2048, .f32⟩
  | .hbm, ⟨6, _⟩ => ⟨S51200x2048, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S256x1, .f32⟩
  | .local _ .vmem, ⟨3, _⟩ => ⟨S256x1, .f32⟩
  | .local _ .vmem, ⟨4, _⟩ => ⟨S1x8192x2048, .fp8e4m3⟩
  | .local _ .vmem, ⟨5, _⟩ => ⟨S1x8192x2048, .fp8e4m3⟩
  | .local _ .vmem, ⟨6, _⟩ => ⟨S1x1x8192, .f32⟩
  | .local _ .vmem, ⟨7, _⟩ => ⟨S1x1x8192, .f32⟩
  | .local _ .vmem, ⟨8, _⟩ => ⟨S1x2048x4096, .fp8e4m3⟩
  | .local _ .vmem, ⟨9, _⟩ => ⟨S1x2048x4096, .fp8e4m3⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x4096, .f32⟩
  | .local _ .smem, ⟨0, _⟩ => ⟨S200, .i32⟩
  | .local _ .smem, ⟨1, _⟩ => ⟨S1, .i32⟩
  | _, _ => ⟨S51200x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![200], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S200.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S200) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S200 : Shape := ⟨1, ![200]⟩
abbrev S1 : Shape := ⟨1, ![1]⟩
abbrev S51200x2048 : Shape := ⟨2, ![51200, 2048]⟩
abbrev S51200x1 : Shape := ⟨2, ![51200, 1]⟩
abbrev S8x8192x2048 : Shape := ⟨3, ![8, 8192, 2048]⟩
abbrev S8x1x8192 : Shape := ⟨3, ![8, 1, 8192]⟩
abbrev S8x2048x4096 : Shape := ⟨3, ![8, 2048, 4096]⟩
abbrev S8x1x2048 : Shape := ⟨3, ![8, 1, 2048]⟩
abbrev S200x1 : Shape := ⟨2, ![200, 1]⟩
abbrev S200x256 : Shape := ⟨2, ![200, 256]⟩
abbrev S1x4096x2048 : Shape := ⟨3, ![1, 4096, 2048]⟩
abbrev S4096x2048 : Shape := ⟨2, ![4096, 2048]⟩
abbrev S51200x4096 : Shape := ⟨2, ![51200, 4096]⟩
abbrev S1x1x4096 : Shape := ⟨3, ![1, 1, 4096]⟩
abbrev S1x4096 : Shape := ⟨2, ![1, 4096]⟩
abbrev S51200 : Shape := ⟨1, ![51200]⟩
abbrev S1x253 : Shape := ⟨2, ![1, 253]⟩
abbrev S51200x253 : Shape := ⟨2, ![51200, 253]⟩
abbrev S1x2048x4096 : Shape := ⟨3, ![1, 2048, 4096]⟩
abbrev S2048x4096 : Shape := ⟨2, ![2048, 4096]⟩
abbrev S1x1x2048 : Shape := ⟨3, ![1, 1, 2048]⟩
abbrev S1x2048 : Shape := ⟨2, ![1, 2048]⟩

abbrev nBuf : Space → Nat
  | .hbm => 12
  | .vmem => 8
  | .smem => 0
  | _ => 0

abbrev bufTy : (tb : Table) → Fin (tcTables nBuf tb) → BufTy
  | .hbm, ⟨0, _⟩ => ⟨S200, .i32⟩
  | .hbm, ⟨1, _⟩ => ⟨S1, .i32⟩
  | .hbm, ⟨2, _⟩ => ⟨S51200x2048, .fp8e4m3⟩
  | .hbm, ⟨3, _⟩ => ⟨S51200x1, .f32⟩
  | .hbm, ⟨4, _⟩ => ⟨S8x8192x2048, .fp8e4m3⟩
  | .hbm, ⟨5, _⟩ => ⟨S8x1x8192, .f32⟩
  | .hbm, ⟨6, _⟩ => ⟨S8x2048x4096, .fp8e4m3⟩
  | .hbm, ⟨7, _⟩ => ⟨S8x1x2048, .f32⟩
  | .hbm, ⟨8, _⟩ => ⟨S200x1, .i32⟩
  | .hbm, ⟨9, _⟩ => ⟨S200x256, .i32⟩
  | .hbm, ⟨10, _⟩ => ⟨S51200x1, .i32⟩
  | .hbm, ⟨11, _⟩ => ⟨S51200x2048, .f32⟩
  | .local _ .vmem, ⟨0, _⟩ => ⟨S51200x1, .i32⟩
  | .local _ .vmem, ⟨1, _⟩ => ⟨S51200x2048, .fp8e4m3⟩
  | .local _ .vmem, ⟨2, _⟩ => ⟨S51200x1, .f32⟩
  | .local _ .vmem, ⟨3, _⟩ => ⟨S8x8192x2048, .fp8e4m3⟩
  | .local _ .vmem, ⟨4, _⟩ => ⟨S8x1x8192, .f32⟩
  | .local _ .vmem, ⟨5, _⟩ => ⟨S8x2048x4096, .fp8e4m3⟩
  | .local _ .vmem, ⟨6, _⟩ => ⟨S8x1x2048, .f32⟩
  | .local _ .vmem, ⟨7, _⟩ => ⟨S51200x2048, .f32⟩
  | _, _ => ⟨S200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S51200x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S51200x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S51200x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S51200x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S8x3072x2048 : Shape := ⟨3, ![8, 3072, 2048]⟩
abbrev S24576x2048 : Shape := ⟨2, ![24576, 2048]⟩
abbrev S24576x1 : Shape := ⟨2, ![24576, 1]⟩
abbrev S512x2048 : Shape := ⟨2, ![512, 2048]⟩
abbrev S512x1 : Shape := ⟨2, ![512, 1]⟩
abbrev S512 : Shape := ⟨1, ![512]⟩
abbrev S1x252 : Shape := ⟨2, ![1, 252]⟩
abbrev S512x252 : Shape := ⟨2, ![512, 252]⟩

abbrev nBuf : Space → Nat
  | .hbm => 4
  | .vmem => 6
  | .smem => 0
  | _ => 0

abbrev bufTy : (tb : Table) → Fin (tcTables nBuf tb) → BufTy
  | .hbm, ⟨0, _⟩ => ⟨S8x3072x2048, .bf16⟩
  | .hbm, ⟨1, _⟩ => ⟨S24576x2048, .bf16⟩
  | .hbm, ⟨2, _⟩ => ⟨S24576x2048, .fp8e4m3⟩
  | .hbm, ⟨3, _⟩ => ⟨S24576x1, .f32⟩
  | .local _ .vmem, ⟨0, _⟩ => ⟨S512x2048, .bf16⟩
  | .local _ .vmem, ⟨1, _⟩ => ⟨S512x2048, .bf16⟩
  | .local _ .vmem, ⟨2, _⟩ => ⟨S512x2048, .fp8e4m3⟩
  | .local _ .vmem, ⟨3, _⟩ => ⟨S512x2048, .fp8e4m3⟩
  | .local _ .vmem, ⟨4, _⟩ => ⟨S512x1, .f32⟩
  | .local _ .vmem, ⟨5, _⟩ => ⟨S512x1, .f32⟩
  | _, _ => ⟨S8x3072x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantReferenceIdeal.lean ====
abbrev S8x3072x2048 : Shape := ⟨3, ![8, 3072, 2048]⟩
abbrev S24576x2048 : Shape := ⟨2, ![24576, 2048]⟩
abbrev S24576x1 : Shape := ⟨2, ![24576, 1]⟩
abbrev S24576 : Shape := ⟨1, ![24576]⟩
abbrev S1x253 : Shape := ⟨2, ![1, 253]⟩
abbrev S24576x253 : Shape := ⟨2, ![24576, 253]⟩

abbrev nBuf : Space → Nat
  | .hbm => 4
  | .vmem => 3
  | .smem => 0
  | _ => 0

abbrev bufTy : (tb : Table) → Fin (tcTables nBuf tb) → BufTy
  | .hbm, ⟨0, _⟩ => ⟨S8x3072x2048, .bf16⟩
  | .hbm, ⟨1, _⟩ => ⟨S24576x2048, .bf16⟩
  | .hbm, ⟨2, _⟩ => ⟨S24576x2048, .fp8e4m3⟩
  | .hbm, ⟨3, _⟩ => ⟨S24576x1, .f32⟩
  | .local _ .vmem, ⟨0, _⟩ => ⟨S24576x2048, .bf16⟩
  | .local _ .vmem, ⟨1, _⟩ => ⟨S24576x2048, .fp8e4m3⟩
  | .local _ .vmem, ⟨2, _⟩ => ⟨S24576x1, .f32⟩
  | _, _ => ⟨S8x3072x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Combine.lean ====
abbrev S51200x2048 : Shape := ⟨2, ![51200, 2048]⟩
abbrev S49152 : Shape := ⟨1, ![49152]⟩
abbrev S8x3072x2 : Shape := ⟨3, ![8, 3072, 2]⟩
abbrev S24576x2 : Shape := ⟨2, ![24576, 2]⟩
abbrev S24576x1 : Shape := ⟨2, ![24576, 1]⟩
abbrev S24576 : Shape := ⟨1, ![24576]⟩
abbrev S_ : Shape := ⟨0, ![]⟩
abbrev S24576x2048 : Shape := ⟨2, ![24576, 2048]⟩
abbrev S256x2048 : Shape := ⟨2, ![256, 2048]⟩
abbrev S256x2 : Shape := ⟨2, ![256, 2]⟩
abbrev S256x1 : Shape := ⟨2, ![256, 1]⟩

abbrev nBuf : Space → Nat
  | .hbm => 28
  | .vmem => 8
  | .smem => 0
  | _ => 0

abbrev bufTy : (tb : Table) → Fin (tcTables nBuf tb) → BufTy
  | .hbm, ⟨0, _⟩ => ⟨S51200x2048, .f32⟩
  | .hbm, ⟨1, _⟩ => ⟨S49152, .i32⟩
  | .hbm, ⟨2, _⟩ => ⟨S8x3072x2, .f32⟩
  | .hbm, ⟨3, _⟩ => ⟨S24576x2, .i32⟩
  | .hbm, ⟨4, _⟩ => ⟨S24576x1, .i32⟩
  | .hbm, ⟨5, _⟩ => ⟨S24576, .i32⟩
  | .hbm, ⟨6, _⟩ => ⟨S_, .i32⟩
  | .hbm, ⟨7, _⟩ => ⟨S24576, .i32⟩
  | .hbm, ⟨8, _⟩ => ⟨S24576, .i1⟩
  | .hbm, ⟨9, _⟩ => ⟨S_, .i32⟩
  | .hbm, ⟨10, _⟩ => ⟨S24576, .i32⟩
  | .hbm, ⟨11, _⟩ => ⟨S24576, .i32⟩
  | .hbm, ⟨12, _⟩ => ⟨S24576, .i32⟩
  | .hbm, ⟨13, _⟩ => ⟨S24576x1, .i32⟩
  | .hbm, ⟨14, _⟩ => ⟨S24576x2048, .f32⟩
  | .hbm, ⟨15, _⟩ => ⟨S24576x1, .i32⟩
  | .hbm, ⟨16, _⟩ => ⟨S24576, .i32⟩
  | .hbm, ⟨17, _⟩ => ⟨S_, .i32⟩
  | .hbm, ⟨18, _⟩ => ⟨S24576, .i32⟩
  | .hbm, ⟨19, _⟩ => ⟨S24576, .i1⟩
  | .hbm, ⟨20, _⟩ => ⟨S_, .i32⟩
  | .hbm, ⟨21, _⟩ => ⟨S24576, .i32⟩
  | .hbm, ⟨22, _⟩ => ⟨S24576, .i32⟩
  | .hbm, ⟨23, _⟩ => ⟨S24576, .i32⟩
  | .hbm, ⟨24, _⟩ => ⟨S24576x1, .i32⟩
  | .hbm, ⟨25, _⟩ => ⟨S24576x2048, .f32⟩
  | .hbm, ⟨26, _⟩ => ⟨S24576x2, .f32⟩
  | .hbm, ⟨27, _⟩ => ⟨S24576x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2, .f32⟩
  | .local _ .vmem, ⟨5, _⟩ => ⟨S256x2, .f32⟩
  | .local _ .vmem, ⟨6, _⟩ => ⟨S256x2048, .bf16⟩
  | .local _ .vmem, ⟨7, _⟩ => ⟨S256x2048, .bf16⟩
  | _, _ => ⟨S51200x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CombineReferenceIdeal.lean ====
abbrev S51200x2048 : Shape := ⟨2, ![51200, 2048]⟩
abbrev S49152 : Shape := ⟨1, ![49152]⟩
abbrev S8x3072x2 : Shape := ⟨3, ![8, 3072, 2]⟩
abbrev S24576x2 : Shape := ⟨2, ![24576, 2]⟩
abbrev S24576x1 : Shape := ⟨2, ![24576, 1]⟩
abbrev S24576 : Shape := ⟨1, ![24576]⟩
abbrev S_ : Shape := ⟨0, ![]⟩
abbrev S24576x2048 : Shape := ⟨2, ![24576, 2048]⟩

abbrev nBuf : Space → Nat
  | .hbm => 38
  | .vmem => 0
  | .smem => 0
  | _ => 0

abbrev bufTy : (tb : Table) → Fin (tcTables nBuf tb) → BufTy
  | .hbm, ⟨0, _⟩ => ⟨S51200x2048, .f32⟩
  | .hbm, ⟨1, _⟩ => ⟨S49152, .i32⟩
  | .hbm, ⟨2, _⟩ => ⟨S8x3072x2, .f32⟩
  | .hbm, ⟨3, _⟩ => ⟨S24576x2, .f32⟩
  | .hbm, ⟨4, _⟩ => ⟨S24576x2, .i32⟩
  | .hbm, ⟨5, _⟩ => ⟨S24576x1, .i32⟩
  | .hbm, ⟨6, _⟩ => ⟨S24576, .i32⟩
  | .hbm, ⟨7, _⟩ => ⟨S_, .i32⟩
  | .hbm, ⟨8, _⟩ => ⟨S24576, .i32⟩
  | .hbm, ⟨9, _⟩ => ⟨S24576, .i1⟩
  | .hbm, ⟨10, _⟩ => ⟨S_, .i32⟩
  | .hbm, ⟨11, _⟩ => ⟨S24576, .i32⟩
  | .hbm, ⟨12, _⟩ => ⟨S24576, .i32⟩
  | .hbm, ⟨13, _⟩ => ⟨S24576, .i32⟩
  | .hbm, ⟨14, _⟩ => ⟨S24576x1, .i32⟩
  | .hbm, ⟨15, _⟩ => ⟨S24576x2048, .f32⟩
  | .hbm, ⟨16, _⟩ => ⟨S24576x1, .f32⟩
  | .hbm, ⟨17, _⟩ => ⟨S24576x2048, .f32⟩
  | .hbm, ⟨18, _⟩ => ⟨S24576x2048, .f32⟩
  | .hbm, ⟨19, _⟩ => ⟨S_, .f32⟩
  | .hbm, ⟨20, _⟩ => ⟨S24576x2048, .f32⟩
  | .hbm, ⟨21, _⟩ => ⟨S24576x2048, .f32⟩
  | .hbm, ⟨22, _⟩ => ⟨S24576x1, .i32⟩
  | .hbm, ⟨23, _⟩ => ⟨S24576, .i32⟩
  | .hbm, ⟨24, _⟩ => ⟨S_, .i32⟩
  | .hbm, ⟨25, _⟩ => ⟨S24576, .i32⟩
  | .hbm, ⟨26, _⟩ => ⟨S24576, .i1⟩
  | .hbm, ⟨27, _⟩ => ⟨S_, .i32⟩
  | .hbm, ⟨28, _⟩ => ⟨S24576, .i32⟩
  | .hbm, ⟨29, _⟩ => ⟨S24576, .i32⟩
  | .hbm, ⟨30, _⟩ => ⟨S24576, .i32⟩
  | .hbm, ⟨31, _⟩ => ⟨S24576x1, .i32⟩
  | .hbm, ⟨32, _⟩ => ⟨S24576x2048, .f32⟩
  | .hbm, ⟨33, _⟩ => ⟨S24576x1, .f32⟩
  | .hbm, ⟨34, _⟩ => ⟨S24576x2048, .f32⟩
  | .hbm, ⟨35, _⟩ => ⟨S24576x2048, .f32⟩
  | .hbm, ⟨36, _⟩ => ⟨S24576x2048, .f32⟩
  | .hbm, ⟨37, _⟩ => ⟨S24576x2048, .bf16⟩
  | _, _ => ⟨S51200x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.TabsKernel.lean ====
/- The expert table and the tile count, arbitrary within their ranges: the pipeline's configuration at them, each point's
   path (the tile computes, or it does not), and when the result's buffer is written back. -/
module

public import proofs.«01_k».proof.Proof.Gen.Kernel.Flash.Runs
public import Idealize.ShloMosaic.Lib.Pipeline.Kit
public import Idealize.ShloMosaic.Lib.Pipeline.TableIdle

@[expose] public section

set_option maxRecDepth 16384
set_option Elab.async false

noncomputable section

namespace Cert.Kernel.Tab

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- Tables in range: every tile's expert one of the eight, at least one tile. -/
structure Tabs where
  g : S200.Idx → BitVec 32
  n : S1.Idx → BitVec 32
  hg : ∀ x, (g x).toNat < 8
  hn : ∀ x, 0 < (n x).toInt

variable (ch : Tabs)

def pinT_0 (ch : Tabs) : S200.Idx → BitVec 32 := ch.g
def pinT_1 (ch : Tabs) : S1.Idx → BitVec 32 := ch.n

def ix1 : S1.Idx := fun a => ⟨0, by fin_cases a; decide⟩

/-- The tile count's word. -/
def ntw : BitVec 32 := ch.n ix1
/-- The tile count. -/
def ntn : ℕ := (ntw ch).toNat

theorem n_eq (x : S1.Idx) : ch.n x = ntw ch := congrArg ch.n (funext fun a => by
  match a with
  | ⟨0, _⟩ => exact Fin.ext (by have h := (x 0).isLt; change (x 0).val < 1 at h; show (x 0).val = 0; omega))

theorem ntw_toInt : (ntw ch).toInt = (ntn ch : ℤ) := by
  have h := ch.hn ix1
  change 0 < (ntw ch).toInt at h
  unfold ntn
  rw [BitVec.toInt_eq_toNat_cond] at h ⊢
  split <;> omega

theorem ntn_pos : 1 ≤ ntn ch := by
  have h := ch.hn ix1
  change 0 < (ntw ch).toInt at h
  rw [ntw_toInt] at h; omega

theorem ntn_lt : ntn ch < 2 ^ 31 := by
  have h := ch.hn ix1
  change 0 < (ntw ch).toInt at h
  unfold ntn
  rw [BitVec.toInt_eq_toNat_cond] at h
  split at h <;> omega

set_option backward.proofsInPublic true in
/-- The tables' contents. -/
def pfN : pre0.Contents (Elt Bits) := fun | ⟨0, _⟩ => pinT_0 ch | ⟨1, _⟩ => pinT_1 ch | ⟨_ + 2, h⟩ => absurd h (by simp)

/-- The launch memory's tables are `ch`. -/
def Pinned (m : (ℓ : Loc nD τ sig) → Buf (Elt Bits) ℓ) : Prop :=
  (∀ c : Dev nD, m ((c : Thread nD τ).loc main_arg0) = pinT_0 ch)
  ∧ (∀ c : Dev nD, m ((c : Thread nD τ).loc main_arg1) = pinT_1 ch)

/-- The row-block index both index maps compute. -/
theorem min_word (k : ℕ) (hk : k < 200) :
    (Scalar.minsi (BitVec.ofNat 32 k) (Scalar.subi (ntw ch) 1#32)).toNat = min k (ntn ch - 1) := by
  have h1 := ntn_pos ch
  have h2 := ntn_lt ch
  have hsub : (Scalar.subi (ntw ch) 1#32).toNat = ntn ch - 1 := by
    show (ntw ch - 1#32).toNat = _
    rw [BitVec.toNat_sub]
    change (2 ^ 32 - 1 + ntn ch) % 2 ^ 32 = _
    omega
  have hk' : (BitVec.ofNat 32 k).toNat = k := by rw [BitVec.toNat_ofNat]; omega
  have hi1 : (BitVec.ofNat 32 k).toInt = (k : ℤ) := by
    rw [BitVec.toInt_eq_toNat_cond, hk']; split <;> omega
  have hi2 : (Scalar.subi (ntw ch) 1#32).toInt = ((ntn ch - 1 : ℕ) : ℤ) := by
    rw [BitVec.toInt_eq_toNat_cond, hsub]; split <;> omega
  generalize Scalar.subi (ntw ch) 1#32 = w at *
  unfold Scalar.minsi
  show (if (BitVec.ofNat 32 k).slt w then BitVec.ofNat 32 k else w).toNat = _
  rw [BitVec.slt_eq_decide, hi1, hi2]
  split <;> rename_i h <;> simp only [decide_eq_true_eq] at h
  · rw [hk']; omega
  · rw [hsub]; omega

theorem crd0 : ∀ t : Fin grid0.N, (grid0.coords t 0).val = t.val := by decide +kernel

theorem tf0 (i : grid0.Coords) : cc0_transform_0 inb_S1_S1_0 numel1_S1 (pfN ch) i = ![min (i 0).val (ntn ch - 1), 0] := by
  unfold cc0_transform_0
  have e : (pfN ch).at 1 (Rect.unit (s := S1) ![0] S1.size inb_S1_S1_0) numel1_S1 = ntw ch := n_eq ch _
  simp only [e, min_word ch (i 0).val (i 0).isLt]
  rfl
theorem tf1 (i : grid0.Coords) : cc0_transform_1 inb_S1_S1_0 numel1_S1 (pfN ch) i = ![min (i 0).val (ntn ch - 1), 0] := tf0 ch i
theorem tf6 (i : grid0.Coords) : cc0_transform_6 inb_S1_S1_0 numel1_S1 (pfN ch) i = ![min (i 0).val (ntn ch - 1), 0] := tf0 ch i

/-- The expert of point `i`. -/
def ixg (i : grid0.Coords) : S200.Idx := fun a => ⟨(i 0).val, by fin_cases a; exact (i 0).isLt⟩
def gid (i : grid0.Coords) : ℕ := (ch.g (ixg i)).toNat

theorem gid_lt (i : grid0.Coords) : gid ch i < 8 := ch.hg _

theorem tf2 (i : grid0.Coords) : cc0_transform_2 k0_off1_inb numel1_S1 (pfN ch) i = ![gid ch i, 0, 0] := by
  unfold cc0_transform_2
  have e : (pfN ch).at 0 (Rect.unit (s := S200) (k0_off1 i) S1.size (k0_off1_inb i)) numel1_S1
      = ch.g (ixg i) := by
    refine congrArg ch.g (funext fun a => ?_)
    match a with
    | ⟨0, _⟩ => exact Fin.ext (by
        have hk : (i 0).val < 200 := (i 0).isLt
        show (BitVec.ofNat 32 (i 0).val).toNat + 1 * 0 = (i 0).val
        rw [BitVec.toNat_ofNat]; omega)
  have e' := congrArg BitVec.toNat e
  funext a
  fin_cases a
  · exact e'
  · rfl
  · rfl
theorem tf3 (i : grid0.Coords) : cc0_transform_3 k0_off1_inb numel1_S1 (pfN ch) i = ![gid ch i, 0, 0] := tf2 ch i
theorem tf4 (i : grid0.Coords) : cc0_transform_4 k0_off1_inb numel1_S1 (pfN ch) i = ![gid ch i, 0, 0] := tf2 ch i
theorem tf5 (i : grid0.Coords) : cc0_transform_5 k0_off1_inb numel1_S1 (pfN ch) i = ![gid ch i, 0, 0] := tf2 ch i

theorem row_lt (i : grid0.Coords) : min (i 0).val (ntn ch - 1) < 200 := lt_of_le_of_lt (min_le_left _ _) (i 0).isLt

set_option backward.proofsInPublic true in
/-- Every block lies inside its array. -/
theorem ok_pfN : ok0 (F := Bits) (pfN ch) := by
  refine ⟨fun i => ⟨?_, .inr (Affine.block_words_dvd (s := S51200x2048) (p := EltTy.packing .fp8e4m3) (by decide) (by decide))⟩,
    fun i => ⟨?_, .inl rfl⟩,
    fun i => ⟨?_, .inr (Affine.block_words_dvd (s := S8x8192x2048) (p := EltTy.packing .fp8e4m3) (by decide) (by decide))⟩,
    fun i => ⟨?_, .inl rfl⟩,
    fun i => ⟨?_, .inr (Affine.block_words_dvd (s := S8x2048x4096) (p := EltTy.packing .fp8e4m3) (by decide) (by decide))⟩,
    fun i => ⟨?_, .inl rfl⟩, fun i => ⟨?_, .inl rfl⟩⟩
  · rw [tf0]; have h := row_lt ch i; intro a; fin_cases a
    · show (min (i 0).val (ntn ch - 1) + 1) * 256 ≤ 51200; omega
    · show (0 + 1) * 2048 ≤ 2048; omega
  · rw [tf1]; have h := row_lt ch i; intro a; fin_cases a
    · show (min (i 0).val (ntn ch - 1) + 1) * 256 ≤ 51200; omega
    · show (0 + 1) * 1 ≤ 1; omega
  · rw [tf2]; have h := gid_lt ch i; intro a; fin_cases a
    · show (gid ch i + 1) * 1 ≤ 8; omega
    · show (0 + 1) * 8192 ≤ 8192; omega
    · show (0 + 1) * 2048 ≤ 2048; omega
  · rw [tf3]; have h := gid_lt ch i; intro a; fin_cases a
    · show (gid ch i + 1) * 1 ≤ 8; omega
    · show (0 + 1) * 1 ≤ 1; omega
    · show (0 + 1) * 8192 ≤ 8192; omega
  · rw [tf4]; have h := gid_lt ch i; intro a; fin_cases a
    · show (gid ch i + 1) * 1 ≤ 8; omega
    · show (0 + 1) * 2048 ≤ 2048; omega
    · show (0 + 1) * 4096 ≤ 4096; omega
  · rw [tf5]; have h := gid_lt ch i; intro a; fin_cases a
    · show (gid ch i + 1) * 1 ≤ 8; omega
    · show (0 + 1) * 1 ≤ 1; omega
    · show (0 + 1) * 2048 ≤ 2048; omega
  · rw [tf6]; have h := row_lt ch i; intro a; fin_cases a
    · show (min (i 0).val (ntn ch - 1) + 1) * 256 ≤ 51200; omega
    · show (0 + 1) * 2048 ≤ 2048; omega

/-- The admissible contents, the pipeline at them. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x2048 .fp8e4m3 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S256x1 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x8192x2048 .fp8e4m3 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1x1x8192 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x2048x4096 .fp8e4m3 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x1x2048 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S256x2048 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the pinned words (what tells the paths apart) -/

abbrev P0_0 (t : Fin (cfgA ch).N) : Prop := k0_cond1 (crd ch t) (View.readAt (Elt Bits) (tbM0_1).view (Rect.unit (s := S1) ![0] S1.size inb_S1_S1_0).toLoadRect (pinT_1 ch) (Shape.Idx.first (numel1_S1.symm ▸ Nat.one_pos))) = 1#1

/-! ## The decisions and the write-backs -/

theorem cond_iff (k : ℕ) (hk : k < 200) (i : grid0.Coords) (hi : (i 0).val = k) : k0_cond1 i (ntw ch) = 1#1 ↔ k < ntn ch := by
  have h1 := ntn_pos ch
  have h2 := ntn_lt ch
  have hk' : (BitVec.ofNat 32 k).toNat = k := by rw [BitVec.toNat_ofNat]; omega
  have hi1 : (BitVec.ofNat 32 k).toInt = (k : ℤ) := by
    rw [BitVec.toInt_eq_toNat_cond, hk']; split <;> omega
  unfold k0_cond1
  simp only [hi]
  show BitVec.ofBool ((BitVec.ofBool ((BitVec.ofNat 32 k).slt (ntw ch))).setWidth 32 != 0#32) = 1#1 ↔ _
  rw [BitVec.slt_eq_decide, hi1, ntw_toInt]
  have hc : ((k : ℤ) < (ntn ch : ℤ)) ↔ k < ntn ch := by omega
  by_cases h : k < ntn ch
  · rw [decide_eq_true (hc.2 h)]; exact ⟨fun _ => h, fun _ => by decide⟩
  · rw [decide_eq_false (mt hc.1 h)]; exact ⟨fun e => absurd e (by decide), fun e => absurd e h⟩

theorem P0_iff (t : Fin (cfgA ch).N) : P0_0 ch t ↔ t.val < ntn ch := by
  unfold P0_0
  have e : View.readAt (Elt Bits) (tbM0_1).view (Rect.unit (s := S1) ![0] S1.size inb_S1_S1_0).toLoadRect (pinT_1 ch) (Shape.Idx.first (numel1_S1.symm ▸ Nat.one_pos)) = ntw ch := n_eq ch _
  rw [e]
  exact cond_iff ch t.val t.isLt _ (crd0 t)

theorem idle_eq (t : Fin (cfgA ch).N) : (cfgA ch).idle (6 : Fin 7) ((cfgA ch).grid.coords t) = !decide (t.val < ntn ch) := by
  have e : (pfN ch).atD 1 ![0] = ntw ch := n_eq ch _
  show (!(k0_cond1 (grid0.coords t) ((pfN ch).atD 1 ![0]) == 1#1)) = _
  rw [e]
  congr 1
  have h := cond_iff ch t.val t.isLt _ (crd0 t)
  by_cases hb : t.val < ntn ch
  · rw [h.2 hb]; simp only [hb, decide_true]; rfl
  · have h' := mt h.1 hb
    simp only [hb, decide_false]; exact beq_false_of_ne h'

theorem index6 (t : Fin (cfgA ch).N) : ((cfgA ch).win (6 : Fin 7)).index t = ![min t.val (ntn ch - 1), 0] := by
  show cc0_transform_6 inb_S1_S1_0 numel1_S1 (pfN ch) (grid0.coords t) = _
  rw [tf6, crd0]

theorem flush_eq (t : Fin (cfgA ch).N) : ((cfgA ch).win (6 : Fin 7)).flush t = decide (t.val + 1 < ntn ch ∨ t.val + 1 = 200) := by
  have hN : (cfgA ch).grid.N = 200 := N_0
  have h1 := ntn_pos ch
  unfold Pipeline.Window.flush
  have ho : ((cfgA ch).win (6 : Fin 7)).isOut = true := rfl
  rw [ho, Bool.true_and]
  rw [Bool.eq_iff_iff]
  simp only [Bool.or_eq_true, decide_eq_true_eq]
  constructor
  · rintro (h | ⟨h, hne⟩)
    · exact .inr (h.trans hN)
    · rw [index6 ch ⟨t.val + 1, h⟩, index6 ch t] at hne
      by_contra hc
      apply hne
      have : min (t.val + 1) (ntn ch - 1) = min t.val (ntn ch - 1) := by omega
      show ![min (t.val + 1) (ntn ch - 1), 0] = _
      rw [this]
  · rintro (h | h)
    · by_cases hl : t.val + 1 = (cfgA ch).grid.N
      · exact .inl hl
      · have hlt : t.val + 1 < (cfgA ch).grid.N := by have := t.isLt; change t.val < (cfgA ch).grid.N at this; omega
        refine .inr ⟨hlt, fun he => ?_⟩
        rw [index6 ch ⟨t.val + 1, hlt⟩, index6 ch t] at he
        have h0 := congrFun he 0
        change min (t.val + 1) (ntn ch - 1) = min t.val (ntn ch - 1) at h0
        omega
    · exact .inl (h.trans hN.symm)

/-- Whether the result's buffer holds nothing stored, before each position. -/
def frTab0_6 (n : ℕ) : Bool := decide (n < ntn ch ∨ n = 0 ∨ n = 200)

theorem fresh_eq (n : ℕ) (hn : n ≤ 200) : (cfgA ch).fresh (6 : Fin 7) n = frTab0_6 ch n := by
  have hN : (cfgA ch).N = 200 := N_0
  have h1 := ntn_pos ch
  refine Pipeline.Cfg.fresh_tab (cfgA ch) (6 : Fin 7) (frTab0_6 ch) (by simp [frTab0_6]) (fun t => ?_) n (le_of_le_of_eq hn hN.symm)
  rw [flush_eq, idle_eq]
  unfold frTab0_6
  have ht : t.val < 200 := lt_of_lt_of_eq t.isLt hN
  rw [Bool.eq_iff_iff]
  simp only [Bool.or_eq_true, Bool.and_eq_true, Bool.not_eq_true', decide_eq_true_eq, decide_eq_false_iff_not]
  omega

/-- Whether the scratch holds nothing stored. -/
def sfresh0_0 (n : ℕ) : Bool := decide (n = 0)

/-- A point that computes. -/
theorem sched0_A (t : Fin (cfgA ch).N) (h : P0_0 ch t) :
    (cfgA ch).idle (6 : Fin 7) ((cfgA ch).grid.coords t) = false ∧ (cfgA ch).fresh (6 : Fin 7) t.val = true ∧ sfresh0_0 (t.val + 1) = false := by
  have h' := (P0_iff ch t).1 h
  have ht : t.val < 200 := lt_of_lt_of_eq t.isLt N_0
  rw [idle_eq, fresh_eq ch _ ht.le]
  refine ⟨by simp [h'], by simp [frTab0_6, h'], by simp [sfresh0_0]⟩

/-- A point that does not. -/
theorem sched0_B (t : Fin (cfgA ch).N) (h : ¬P0_0 ch t) :
    (cfgA ch).idle (6 : Fin 7) ((cfgA ch).grid.coords t) = true ∧ (cfgA ch).fresh (6 : Fin 7) t.val = false ∧ sfresh0_0 t.val = false ∧ sfresh0_0 (t.val + 1) = false := by
  have h' := mt (P0_iff ch t).2 h
  have ht : t.val < 200 := lt_of_lt_of_eq t.isLt N_0
  have h1 := ntn_pos ch
  rw [idle_eq, fresh_eq ch _ ht.le]
  refine ⟨by simp [h'], ?_, ?_, by simp [sfresh0_0]⟩
  · simp only [frTab0_6, decide_eq_false_iff_not]; omega
  · simp only [sfresh0_0, decide_eq_false_iff_not]; omega

end Cert.Kernel.Tab

end
-- ==== Proof.RunKernel.lean ====
/- The kernel call run to its end at tables in range: every point's body, the launch, and what every array holds after. -/
module

public import proofs.«01_k».proof.Proof.TabsKernel
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.Kernel.Tab

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the bit-exact instance (the frame claim's): every pinned word a `BitVec`. -/
local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tabs)
variable (m : (ℓ : Loc nD τ sig) → Buf (Elt Bits) ℓ) (ρ : Dev nD → PrngReg)

/-! ## What the outputs and scratches hold after each point -/

/-- One step of the trajectory: what the outputs' current buffers and the scratches hold after the body at point `t`
    (output 6, scratch 0), from what they held before (`prev`): the path the decisions select at `t`, its
    run's contents; an output the path leaves idle keeps what it held (junk — `default`, named by nothing — where fresh). -/
def step0 (c : Dev nD) (t : Fin (cfgA ch).N) (prev : (S256x2048.Idx → Elt Bits .f32) × Buf (Elt Bits) ((c : Thread nD τ).loc cc0_scratch0)) : (S256x2048.Idx → Elt Bits .f32) × Buf (Elt Bits) ((c : Thread nD τ).loc cc0_scratch0) :=
  if q0 : P0_0 ch t then
    (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0).2.1)
  else
    ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 q0).1)

/-- THE TRAJECTORY: after position `n`. -/
def traj0 (c : Dev nD) : (n : ℕ) → n < (cfgA ch).N → (S256x2048.Idx → Elt Bits .f32) × Buf (Elt Bits) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S256x2048.Idx → Elt Bits .f32) × Buf (Elt Bits) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x2048.Idx → Elt Bits .f32) × Buf (Elt Bits) ((c : Thread nD τ).loc cc0_scratch0)) (q0 : P0_0 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0).2.1) := by
  unfold step0; simp only [dif_pos q0]

/-- `step0` at a point of path B. -/
theorem step0_B (c : Dev nD) (t : Fin (cfgA ch).N) (prev : (S256x2048.Idx → Elt Bits .f32) × Buf (Elt Bits) ((c : Thread nD τ).loc cc0_scratch0)) (q0 : ¬P0_0 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 q0).1) := by
  unfold step0; simp only [dif_neg q0]

/-! ## The pipeline's proof data -/

/-- What the tracked buffers held before position `t` of `Fin (N+1)` (the invariant's index). -/
def prev0T (c : Dev nD) (t : Fin ((cfgA ch).N + 1)) : (S256x2048.Idx → Elt Bits .f32) × Buf (Elt Bits) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · obtain ⟨i6, -, -⟩ := sched0_A ch t q0
    rw [i6] at hi; exact absurd hi (by decide)
  · rw [step0_B ch m ρ c t _ q0]
    simp only [hf, Bool.false_eq_true, ↓reduceIte]
    unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_ffn (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _)

set_option maxHeartbeats 4000000 in
/-- THE BODY OBLIGATION at point `t`: the decisions there tell the path (`by_cases` on `P0_·`); its hypotheses and schedule are
    the facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, fr6, sfn0⟩ := sched0_A ch t q0
    have k0_h1 := q0
    rewrite [i6]
    simp only [before0_0, before0_1, before0_2, before0_3, before0_4, before0_5, before0_6, after0_0, after0_1, after0_2, after0_3, after0_4, after0_5, after0_6]
    simp only [fr6, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) k0_h1).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [HS0]; · iexact HS0
    iintro ⟨H0, H1, H2, H3, H4, H5, HT0, HT1, ⟨%e6, H6⟩, HS0⟩
    isplitl [HS0 HT0 HT1]
    · isplitl [HS0]
      · iexists _; isplitr; swap
        · iexact HS0
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _ _)
  · obtain ⟨i6, fr6, sf0, sfn0⟩ := sched0_B ch t q0
    have k0_h1 := q0
    cases f6 : ((cfgA ch).win (6 : Fin 7)).flush t
    · rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      iintro ⟨H0, H1, H2, H3, H4, H5, HT0, HT1, H6, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      iintro ⟨H0, H1, H2, H3, H4, H5, HT0, HT1, H6, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are `ch`'s: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp.1 c).symm, ((h c).2 1).trans (hp.2 c).symm, ((h c).1 (0 : Fin 7)).trans ((dats ch m ρ 0 c).arrAt_in (0 : Fin 7) rfl _), ((h c).1 (1 : Fin 7)).trans ((dats ch m ρ 0 c).arrAt_in (1 : Fin 7) rfl _), ((h c).1 (2 : Fin 7)).trans ((dats ch m ρ 0 c).arrAt_in (2 : Fin 7) rfl _), ((h c).1 (3 : Fin 7)).trans ((dats ch m ρ 0 c).arrAt_in (3 : Fin 7) rfl _), ((h c).1 (4 : Fin 7)).trans ((dats ch m ρ 0 c).arrAt_in (4 : Fin 7) rfl _), ((h c).1 (5 : Fin 7)).trans ((dats ch m ρ 0 c).arrAt_in (5 : Fin 7) rfl _)⟩) (run_main ch m ρ hp)

/-- From a launch memory whose tables are `ch`'s, every weakly fair
    execution terminates, nothing faults, every argument array ends unchanged and every semaphore counter of the machine reads
    zero at every final state — `Cert.quiescent_Kernel`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged ch m ρ hp) ((θ_run defs _ _).mono (fun _ h => h.2) (run_main_quiescent ch m ρ hp))

end Cert.Kernel.Tab

end
-- ==== Proof.Quant.lean ====
/- The two statements of the power-of-two scale at the extended reals: the count of the powers of two not above
   `amax / 448`, made into an exponent field, and the least power of two above `amax / 448`. -/
module

public import Idealize.ShloMosaic.PureOps.Ideal.Laws
public import Idealize.ShloMosaic.Lib.Pointwise

@[expose] public section

open Idealize.ShloMosaic

noncomputable section

namespace Cert.Q

/-- The word whose exponent field is `w`: the pattern of `2 ^ (w - 127)`. -/
def fieldWord (w : BitVec 32) : BitVec 32 := IntOp.shli ArithUnit.vector w 23#32

/-- The kernel's biased exponent of `q`: how many of the 252 powers of two from `2 ^ -126` on are not above it. -/
def kCnt (q : EReal) : BitVec 32 :=
  Finset.fold IntOp.addi (0#32)
    (fun x : Fin 252 => if q < Ideal.ofBits FTy.f32 (fieldWord (IntOp.addi (BitVec.ofNat 32 ↑x) 1#32)) then 0#32 else 1#32)
    Finset.univ

/-- The kernel's exponent of a row whose greatest magnitude is `a`. -/
def kE (a : EReal) : BitVec 32 :=
  if a = 0 then 0#32 else IntOp.subi (kCnt (a * Ideal.ofBits FTy.f32 991054117#32)) 126#32

/-- The kernel's scale. -/
def kS (a : EReal) : EReal := Ideal.ofBits FTy.f32 (fieldWord (IntOp.addi (kE a) 127#32))

/-- The kernel's factor for the codes. -/
def kI (a : EReal) : EReal := Ideal.ofBits FTy.f32 (fieldWord (IntOp.addi (IntOp.subi 0#32 (kE a)) 127#32))

/-- The reference's candidate powers of two. -/
def rP (x : Fin 253) : EReal :=
  FloatOps.exp2 (F := Ideal) (φ := .f32)
    (FloatOps.sitofp (F := Ideal) FTy.f32 (BitVec.ofNat 32 ↑x) - Ideal.ofBits FTy.f32 1123811328#32)

/-- The reference's scale. -/
def rS (a : EReal) : EReal :=
  if a = 0 then 1
  else Finset.fold min (Ideal.ofBits FTy.f32 2139095040#32)
    (fun x : Fin 253 => if a * Ideal.ofBits FTy.f32 991054117#32 < rP x then rP x else Ideal.ofBits FTy.f32 2122317824#32)
    Finset.univ

theorem ofBits_field (n : ℕ) (h0 : 0 < n) (h1 : n < 255) :
    Ideal.ofBits FTy.f32 (fieldWord (BitVec.ofNat 32 n)) = (((2 : ℝ) ^ ((n : ℤ) - 127) : ℝ) : EReal) := by
  have hw : fieldWord (BitVec.ofNat 32 n) = BitVec.ofNat 32 n <<< 23 := rfl
  have e1 : (BitVec.ofNat 32 n <<< 23).extractLsb' 31 1 = 0#1 := by
    apply BitVec.eq_of_toNat_eq
    simp [BitVec.extractLsb'_toNat, BitVec.toNat_shiftLeft, Nat.shiftLeft_eq, Nat.shiftRight_eq_div_pow]
    omega
  have e2 : ((BitVec.ofNat 32 n <<< 23).extractLsb' 23 8).toNat = n := by
    simp [BitVec.extractLsb'_toNat, BitVec.toNat_shiftLeft, Nat.shiftLeft_eq, Nat.shiftRight_eq_div_pow]
    omega
  have e3 : ((BitVec.ofNat 32 n <<< 23).extractLsb' 0 23).toNat = 0 := by
    simp [BitVec.extractLsb'_toNat, BitVec.toNat_shiftLeft, Nat.shiftLeft_eq]
  rw [hw]
  generalize BitVec.ofNat 32 n <<< 23 = w at *
  show Ideal.ieee 8 23 w = _
  unfold Ideal.ieee
  simp only [e2, e3]
  rw [if_neg (by omega), if_neg (by omega)]
  have e1' : (w.extractLsb' (8 + 23) 1 == 1#1) = false := by
    show (w.extractLsb' 31 1 == 1#1) = false
    rw [e1]; rfl
  rw [e1']
  congr 1
  have : ((n : ℤ) - (2 ^ (8 - 1) - 1) - ((23 : ℕ) : ℤ)) = ((n : ℤ) - 127) + (-23) := by norm_num; ring
  rw [this, zpow_add₀ (by norm_num)]
  norm_num
  ring

theorem addi_eq (a b : BitVec 32) : IntOp.addi a b = a + b := rfl
theorem subi_eq (a b : BitVec 32) : IntOp.subi a b = a - b := rfl

/-- Threshold `x` of the kernel's count. -/
theorem thr (x : Fin 252) :
    Ideal.ofBits FTy.f32 (fieldWord (IntOp.addi (BitVec.ofNat 32 ↑x) 1#32)) = (((2 : ℝ) ^ ((x : ℤ) - 126) : ℝ) : EReal) := by
  have : IntOp.addi (BitVec.ofNat 32 ↑x) 1#32 = BitVec.ofNat 32 (x + 1) := by
    rw [addi_eq, BitVec.ofNat_add]
  rw [this, ofBits_field _ (by omega) (by omega)]
  congr 2
  push_cast
  ring

theorem c126 : Ideal.ofBits FTy.f32 1123811328#32 = ((126 : ℝ) : EReal) := by
  show Ideal.ieee 8 23 (1123811328#32) = _
  unfold Ideal.ieee
  have e2 : ((1123811328#32).extractLsb' 23 8).toNat = 133 := by decide
  have e3 : ((1123811328#32).extractLsb' 0 23).toNat = 8126464 := by decide
  have e1 : ((1123811328#32).extractLsb' (8 + 23) 1 == 1#1) = false := by decide
  simp only [e1, e2, e3]
  rw [if_neg (by omega), if_neg (by omega)]
  congr 1
  norm_num

theorem top_word : Ideal.ofBits FTy.f32 2122317824#32 = (((2 : ℝ) ^ (126 : ℤ) : ℝ) : EReal) := by
  have h : (2122317824#32 : BitVec 32) = fieldWord (BitVec.ofNat 32 253) := by decide
  rw [h, ofBits_field _ (by omega) (by omega)]
  norm_num

theorem inf_word : Ideal.ofBits FTy.f32 2139095040#32 = ⊤ := by
  show Ideal.ieee 8 23 (2139095040#32) = _
  unfold Ideal.ieee
  have e2 : ((2139095040#32).extractLsb' 23 8).toNat = 255 := by decide
  have e3 : ((2139095040#32).extractLsb' 0 23).toNat = 0 := by decide
  have e1 : ((2139095040#32).extractLsb' (8 + 23) 1 == 1#1) = false := by decide
  simp only [e1, e2, e3]
  norm_num

theorem ninf_word : Ideal.ofBits FTy.f32 4286578688#32 = ⊥ := by
  show Ideal.ieee 8 23 (4286578688#32) = _
  unfold Ideal.ieee
  have e2 : ((4286578688#32).extractLsb' 23 8).toNat = 255 := by decide
  have e3 : ((4286578688#32).extractLsb' 0 23).toNat = 0 := by decide
  have e1 : ((4286578688#32).extractLsb' (8 + 23) 1 == 1#1) = true := by decide
  simp only [e1, e2, e3]
  norm_num

theorem rP_eq (x : Fin 253) : rP x = (((2 : ℝ) ^ ((x : ℤ) - 126) : ℝ) : EReal) := by
  have h1 : FloatOps.sitofp (F := Ideal) FTy.f32 (BitVec.ofNat 32 ↑x) = (((x : ℕ) : ℝ) : EReal) := by
    show ((((BitVec.ofNat 32 ↑x).toInt : ℤ) : ℝ) : EReal) = _
    have : (BitVec.ofNat 32 ↑x).toInt = ((x : ℕ) : ℤ) := by
      rw [BitVec.toInt_eq_toNat_of_lt] <;> simp <;> omega
    rw [this]; simp
  unfold rP
  rw [h1, c126, ← EReal.coe_sub]
  show Ideal.exp2 _ = _
  rw [Ideal.exp2_coe]
  congr 1
  show (2 : ℝ) ^ (((x : ℕ) : ℝ) - 126) = _
  rw [← Real.rpow_intCast]
  push_cast
  rfl

theorem two_zpow_le {a b : ℤ} (h : a ≤ b) : (((2 : ℝ) ^ a : ℝ) : EReal) ≤ (((2 : ℝ) ^ b : ℝ) : EReal) :=
  EReal.coe_le_coe_iff.2 (zpow_le_zpow_right₀ (by norm_num) h)

/-- The count as a number. -/
theorem kCnt_spec (q : EReal) : ∃ c : ℕ, c ≤ 252 ∧ kCnt q = BitVec.ofNat 32 c ∧
    ∀ k : ℕ, k < 252 → (q < (((2 : ℝ) ^ ((k : ℤ) - 126) : ℝ) : EReal) ↔ c ≤ k) := by
  classical
  let p : ℕ → Prop := fun k => ¬ q < (((2 : ℝ) ^ ((k : ℤ) - 126) : ℝ) : EReal)
  have hmono : ∀ i j, i ≤ j → p j → p i := fun i j hij hj hi =>
    hj (lt_of_lt_of_le hi (two_zpow_le (by omega)))
  have hfold : ∀ (s : Finset (Fin 252)), Finset.fold IntOp.addi (0#32)
      (fun x : Fin 252 => if q < Ideal.ofBits FTy.f32 (fieldWord (IntOp.addi (BitVec.ofNat 32 ↑x) 1#32)) then 0#32 else 1#32) s
      = BitVec.ofNat 32 (s.filter fun x => p x.val).card := by
    intro s
    induction s using Finset.induction_on with
    | empty => rfl
    | insert a s ha ih =>
      rw [Finset.fold_insert ha, ih, Finset.filter_insert, thr]
      by_cases h : q < (((2 : ℝ) ^ ((a : ℤ) - 126) : ℝ) : EReal)
      · rw [if_pos h, if_neg (by simpa [p] using h), addi_eq]; simp
      · rw [if_neg h, if_pos (by simpa [p] using h), Finset.card_insert_of_notMem (by simp [ha]), addi_eq, Nat.add_comm,
          BitVec.ofNat_add]
  refine ⟨(Finset.univ.filter fun x : Fin 252 => p x.val).card, ?_, hfold _, ?_⟩
  · exact (Finset.card_le_univ _).trans (by simp)
  · intro k hk
    constructor
    · intro h
      have hsub : (Finset.univ.filter fun x : Fin 252 => p x.val) ⊆ Finset.univ.filter fun x : Fin 252 => x.val < k := by
        intro x hx
        simp only [Finset.mem_filter, Finset.mem_univ, true_and] at hx ⊢
        by_contra hc
        exact hmono k x (by omega) hx h
      refine (Finset.card_le_card hsub).trans ?_
      have : (Finset.univ.filter fun x : Fin 252 => x.val < k) = Finset.Iio (⟨k, hk⟩ : Fin 252) := by
        ext x; simp [Fin.lt_def]
      rw [this, Fin.card_Iio]
    · intro h
      by_contra hc
      have hsub : Finset.Iic (⟨k, hk⟩ : Fin 252) ⊆ (Finset.univ.filter fun x : Fin 252 => p x.val) := by
        intro x hx
        simp only [Finset.mem_filter, Finset.mem_univ, true_and, Finset.mem_Iic, Fin.le_def] at hx ⊢
        exact hmono x k hx hc
      have := Finset.card_le_card hsub
      rw [Fin.card_Iic] at this
      simp only at this
      omega

/-- Both scales are one positive power of two, and the kernel's factor its inverse. -/
theorem scales (a : EReal) : ∃ p : ℝ, 0 < p ∧ kS a = (p : EReal) ∧ kI a = ((p⁻¹ : ℝ) : EReal) ∧ rS a = (p : EReal) := by
  by_cases ha : a = 0
  · refine ⟨1, one_pos, ?_, ?_, ?_⟩
    · have : kS a = Ideal.ofBits FTy.f32 (fieldWord (BitVec.ofNat 32 127)) := by
        unfold kS kE; rw [if_pos ha]; rfl
      rw [this, ofBits_field _ (by omega) (by omega)]; norm_num
    · have : kI a = Ideal.ofBits FTy.f32 (fieldWord (BitVec.ofNat 32 127)) := by
        unfold kI kE; rw [if_pos ha]; rfl
      rw [this, ofBits_field _ (by omega) (by omega)]; norm_num
    · unfold rS; rw [if_pos ha]; rfl
  · obtain ⟨c, hc, hk, hiff⟩ := kCnt_spec (a * Ideal.ofBits FTy.f32 991054117#32)
    have hE : kE a = BitVec.ofNat 32 c - 126#32 := by
      unfold kE; rw [if_neg ha, hk]; rfl
    refine ⟨(2 : ℝ) ^ ((c : ℤ) - 126), by positivity, ?_, ?_, ?_⟩
    · have : IntOp.addi (kE a) 127#32 = BitVec.ofNat 32 (c + 1) := by
        rw [hE, addi_eq]; apply BitVec.eq_of_toNat_eq; simp; omega
      unfold kS
      rw [this, ofBits_field _ (by omega) (by omega)]
      congr 2; push_cast; ring
    · have : IntOp.addi (IntOp.subi 0#32 (kE a)) 127#32 = BitVec.ofNat 32 (253 - c) := by
        rw [hE, addi_eq, subi_eq]; apply BitVec.eq_of_toNat_eq; simp; omega
      unfold kI
      rw [this, ofBits_field _ (by omega) (by omega), ← zpow_neg]
      congr 2; push_cast [Nat.cast_sub (show c ≤ 253 by omega)]; ring
    · unfold rS
      rw [if_neg ha, inf_word, top_word]
      simp only [rP_eq]
      apply le_antisymm
      · rw [Finset.fold_min_le]
        right
        refine ⟨⟨c, by omega⟩, Finset.mem_univ _, ?_⟩
        split
        · exact le_rfl
        · rename_i h
          rcases Nat.lt_or_ge c 252 with h' | h'
          · exact absurd ((hiff c h').2 le_rfl) h
          · have : c = 252 := by omega
            subst this; exact le_rfl
      · rw [Finset.le_fold_min]
        refine ⟨le_top, fun x _ => ?_⟩
        split
        · rename_i h
          apply two_zpow_le
          rcases Nat.lt_or_ge x 252 with h' | h'
          · have := (hiff x h').1 h; omega
          · omega
        · exact two_zpow_le (by omega)

theorem kS_eq (a : EReal) : kS a = rS a := by
  obtain ⟨p, _, h1, _, h3⟩ := scales a
  rw [h1, h3]

/-- Dividing by the reference's scale is multiplying by the kernel's factor. -/
theorem div_rS (v a : EReal) : Ideal.div v (rS a) = v * kI a := by
  obtain ⟨p, hp, _, h2, h3⟩ := scales a
  rw [h2, h3]
  unfold Ideal.div
  rw [if_neg (by exact_mod_cast hp.ne'), EReal.coe_inv]

end Cert.Q

end
-- ==== Proof.Rows.lean ====
/- One row of the grouped feed-forward layer, on the whole arrays: an expert's hidden layer, its greatest magnitude, and
   the row of the result, as both programs compute it. -/
module

public import proofs.«01_k».proof.Proof.Quant

@[expose] public section

noncomputable section

namespace Cert.Q
open Idealize.ShloMosaic

/-- One element of the hidden layer: the gated product of a row's two scaled projections. -/
def hOf (xs : Fin 2048 → EReal) (sc : EReal) (wg : Fin 2048 → EReal) (sg : EReal) (wu : Fin 2048 → EReal) (su : EReal) : EReal :=
  (∑ x, xs x * wg x) * sc * sg * Ideal.logistic ((∑ x, xs x * wg x) * sc * sg) * ((∑ x, xs x * wu x) * sc * su)

/-- One element of the result: the hidden row over its scale, saturated, times a column of the down weights, scaled back. -/
def oOf (h : Fin 4096 → EReal) (a : EReal) (wd : Fin 4096 → EReal) (sd : EReal) : EReal :=
  (∑ x, min (Ideal.ofBits FTy.f32 1138753536#32) (max (Ideal.ofBits FTy.f32 3286237184#32) (h x * kI a)) * wd x) * kS a * sd

/-- The same element with the scale as the quantiser of the mathematics states it: divided by, not multiplied by its inverse. -/
theorem oOf_eq (h : Fin 4096 → EReal) (a : EReal) (wd : Fin 4096 → EReal) (sd : EReal) :
    oOf h a wd sd = (∑ x, min (Ideal.ofBits FTy.f32 1138753536#32) (max (Ideal.ofBits FTy.f32 3286237184#32) (Ideal.div (h x) (rS a))) * wd x) * rS a * sd := by
  unfold oOf
  simp only [div_rS, kS_eq]

theorem hOf_congr {xs xs' : Fin 2048 → EReal} {sc sc' : EReal} {wg wg' : Fin 2048 → EReal} {sg sg' : EReal} {wu wu' : Fin 2048 → EReal} {su su' : EReal}
    (h1 : ∀ x, xs x = xs' x) (h2 : sc = sc') (h3 : ∀ x, wg x = wg' x) (h4 : sg = sg') (h5 : ∀ x, wu x = wu' x) (h6 : su = su') :
    hOf xs sc wg sg wu su = hOf xs' sc' wg' sg' wu' su' := by
  rw [funext h1, h2, funext h3, h4, funext h5, h6]

theorem oOf_congr {h h' : Fin 4096 → EReal} {a a' : EReal} {wd wd' : Fin 4096 → EReal} {sd sd' : EReal}
    (h1 : ∀ x, h x = h' x) (h2 : a = a') (h3 : ∀ x, wd x = wd' x) (h4 : sd = sd') : oOf h a wd sd = oOf h' a' wd' sd' := by
  rw [funext h1, h2, funext h3, h4]

variable (xs : (⟨2, ![51200, 2048]⟩ : Shape).Idx → EReal) (sc : (⟨2, ![51200, 1]⟩ : Shape).Idx → EReal)
  (wgu : (⟨3, ![8, 8192, 2048]⟩ : Shape).Idx → EReal) (sgu : (⟨3, ![8, 1, 8192]⟩ : Shape).Idx → EReal)
  (wd : (⟨3, ![8, 2048, 4096]⟩ : Shape).Idx → EReal) (sd : (⟨3, ![8, 1, 2048]⟩ : Shape).Idx → EReal)

/-- Row `R` of expert `e`'s hidden layer. -/
def rowH (e : Fin 8) (R : Fin 51200) (k : Fin 4096) : EReal :=
  hOf (fun x => xs (ix2 R x)) (sc (ix2 R 0)) (fun x => wgu (ix3 e ⟨k, by omega⟩ x)) (sgu (ix3 e 0 ⟨k, by omega⟩))
    (fun x => wgu (ix3 e ⟨4096 + k, by omega⟩ x)) (sgu (ix3 e 0 ⟨4096 + k, by omega⟩))

/-- The greatest magnitude of that row. -/
def rowMx (e : Fin 8) (R : Fin 51200) : EReal :=
  Finset.fold max (Ideal.ofBits FTy.f32 4286578688#32)
    (fun k : Fin 4096 => FloatOps.absf (F := Ideal) (φ := .f32) (rowH xs sc wgu sgu e R k)) Finset.univ

/-- Row `R`, column `j` of expert `e`'s result. -/
def rowOut (e : Fin 8) (R : Fin 51200) (j : Fin 2048) : EReal :=
  oOf (rowH xs sc wgu sgu e R) (rowMx xs sc wgu sgu e R) (fun x => wd (ix3 e j x)) (sd (ix3 e 0 j))

end Cert.Q

end
-- ==== Proof.TileKernelIdeal.lean ====
/- What one computing tile leaves in the result's buffer, over the extended reals: each element as the row mathematics of
   Rows.lean over the tile's blocks. -/
module

public import proofs.«01_k».proof.Proof.Gen.KernelIdeal.Flash.Runs
public import proofs.«01_k».proof.Proof.Rows
public import Idealize.ShloMosaic.Lib.Pointwise
public import Idealize.ShloMosaic.Lib.Pipeline.Value
@[expose] public section
set_option maxRecDepth 16384
set_option Elab.async false
noncomputable section

namespace Cert.KernelIdeal.Tile
open Cert.KernelIdeal Cert.KernelIdeal.Gen
open Idealize.SL Idealize.SL.Sem Idealize.ShloMosaic
open Cert.Q

variable (arg3 : Memref sig .tc .vmem S256x2048 .fp8e4m3) (arg4 : Memref sig .tc .vmem S256x1 .f32)
  (arg5 : Memref sig .tc .vmem S1x8192x2048 .fp8e4m3) (arg6 : Memref sig .tc .vmem S1x1x8192 .f32)
  (arg7 : Memref sig .tc .vmem S1x2048x4096 .fp8e4m3) (arg8 : Memref sig .tc .vmem S1x1x2048 .f32)
  (x0 : S256x2048.Idx → Elt Ideal .fp8e4m3) (x1 : S256x1.Idx → Elt Ideal .f32) (x2 : S1x8192x2048.Idx → Elt Ideal .fp8e4m3)
  (x3 : S1x1x8192.Idx → Elt Ideal .f32) (x4 : S1x2048x4096.Idx → Elt Ideal .fp8e4m3) (x5 : S1x1x2048.Idx → Elt Ideal .f32)

/-- The hidden layer of a tile at row `r`, column `k`. -/
def hT (r : Fin 256) (k : Fin 4096) : EReal :=
  hOf (fun x => x0 (ix2 r x)) (x1 (ix2 r 0)) (fun x => x2 (ix3 0 ⟨k, by omega⟩ x)) (x3 (ix3 0 0 ⟨k, by omega⟩))
    (fun x => x2 (ix3 0 ⟨4096 + k, by omega⟩ x)) (x3 (ix3 0 0 ⟨4096 + k, by omega⟩))

/-- The hidden layer read at an element of a column tile. -/
theorem hT_emb (o : ℕ) (ho : o + 512 ≤ 4096) (inb) (a : Fin 256) (b : Fin 512) :
    hT x0 x1 x2 x3 ((Rect.unit (s := S256x4096) ![0, o] ![256, 512] inb).emb (ix2 a b) 0)
      ((Rect.unit (s := S256x4096) ![0, o] ![256, 512] inb).emb (ix2 a b) 1) = hT x0 x1 x2 x3 a ⟨o + b, by omega⟩ := by
  congr 1
  · exact Fin.ext (by show 0 + 1 * a.val = a.val; omega)
  · exact Fin.ext (by show o + 1 * b.val = o + b.val; omega)

theorem scratch (y : S256x4096.Idx) :
    View.canon (kernelRun0_A.sl.HS0_8 arg3 arg4 arg5 arg6 x0 x1 x2 x3) y = hT x0 x1 x2 x3 (y 0) (y 1) := by
  refine View.canon_apply_of_pieces (Val := Elt Ideal) (e := .f32) (S := S256x4096) (fun y => hT x0 x1 x2 x3 (y 0) (y 1)) _ ?_ y ?_
  · unfold kernelRun0_A.sl.HS0_8
    simp only [List.forall_mem_cons, List.not_mem_nil, IsEmpty.forall_iff, implies_true, and_true]
    refine ⟨?_, ?_, ?_, ?_, ?_, ?_, ?_, ?_⟩
    all_goals intro x
    all_goals idx_vars x
    all_goals refine Eq.trans ?_ (hT_emb _ _ _ _ _ (by norm_num) _ _ _).symm
    all_goals unfold hT hOf
    · pointwise [kernelRun0_A.sl.r_15, kernelRun0_A.sl.r_16, kernelRun0_A.sl.r_17, kernelRun0_A.sl.r_1, kernelRun0_A.sl.r_2, k0_pay32,k0_pay31,k0_pay30,k0_pay29,k0_pay28, View.readAt_rep]
      simp only [← Nat.add_assoc, Nat.reduceAdd]
    · pointwise [kernelRun0_A.sl.r_13, kernelRun0_A.sl.r_1, kernelRun0_A.sl.r_2, k0_pay24,k0_pay25,k0_pay26, View.readAt_rep]
      simp only [← Nat.add_assoc, Nat.reduceAdd]
    · pointwise [kernelRun0_A.sl.r_1, kernelRun0_A.sl.r_2, k0_pay21, k0_pay22, View.readAt_rep]
      simp only [← Nat.add_assoc, Nat.reduceAdd]
    · pointwise [kernelRun0_A.sl.r_1, kernelRun0_A.sl.r_2, k0_pay18, k0_pay19, View.readAt_rep]
      simp only [← Nat.add_assoc, Nat.reduceAdd]
    · pointwise [kernelRun0_A.sl.r_9, kernelRun0_A.sl.r_10, kernelRun0_A.sl.r_1, kernelRun0_A.sl.r_2, k0_pay14, k0_pay15, k0_pay16, k0_pay17, View.readAt_rep]
      simp only [← Nat.add_assoc, Nat.reduceAdd]
    · pointwise [kernelRun0_A.sl.r_6, kernelRun0_A.sl.r_7, kernelRun0_A.sl.r_1, kernelRun0_A.sl.r_2, k0_pay10, k0_pay11, k0_pay12, View.readAt_rep]
      simp only [← Nat.add_assoc, Nat.reduceAdd]
    · pointwise [kernelRun0_A.sl.r_4, kernelRun0_A.sl.cst_22, kernelRun0_A.sl.r_1, kernelRun0_A.sl.r_2, k0_pay6, k0_pay7, k0_pay8, View.readAt_rep]
      simp only [← Nat.add_assoc, Nat.reduceAdd]
    · pointwise [k0_pay3, k0_pay4, View.readAt_rep]
  · exact View.cover_of_tiledL (kernelRun0_A.sl.HS0_8 arg3 arg4 arg5 arg6 x0 x1 x2 x3) S256x512.size (by sl_kernel_rfl) y

/-- The scratch read back whole. -/
theorem v231 (r : Fin 256) (k : Fin 4096) : kernelRun0_A.sl.v231 arg3 arg4 arg5 arg6 x0 x1 x2 x3 (ix2 r k) = hT x0 x1 x2 x3 r k := by
  unfold kernelRun0_A.sl.v231
  rw [View.readCov_eq_canon']
  show View.canon _ _ = _
  rw [scratch]
  congr 1
  · exact Fin.ext (by show 0 + 1 * r.val = r.val; omega)
  · exact Fin.ext (by show 0 + 1 * k.val = k.val; omega)

/-- The greatest magnitude of a row's column tile. -/
def tmx (o : ℕ) (ho : o + 512 ≤ 4096) (r : Fin 256) : EReal :=
  Finset.fold max (Ideal.ofBits FTy.f32 4286578688#32)
    (fun t : Fin 512 => FloatOps.absf (F := Ideal) (φ := .f32) (hT x0 x1 x2 x3 r ⟨o + t, by omega⟩)) Finset.univ

theorem am_r_3 (r : Fin 256) : kernelRun0_A.sl.r_3 arg3 arg4 arg5 arg6 x0 x1 x2 x3 (ix2 r 0) = max 0 (tmx x0 x1 x2 x3 0 (by norm_num) r) := by
  unfold tmx hT hOf
  pointwise [kernelRun0_A.sl.r_3, kernelRun0_A.sl.r_1, kernelRun0_A.sl.r_2, k0_pay3, k0_pay5, View.readAt_rep]

theorem am_r_5 (r : Fin 256) : kernelRun0_A.sl.r_5 arg3 arg4 arg5 arg6 x0 x1 x2 x3 (ix2 r 0) = max (kernelRun0_A.sl.r_3 arg3 arg4 arg5 arg6 x0 x1 x2 x3 (ix2 r 0)) (tmx x0 x1 x2 x3 512 (by norm_num) r) := by
  unfold tmx hT hOf
  pointwise [kernelRun0_A.sl.r_5, kernelRun0_A.sl.r_1, kernelRun0_A.sl.r_2, kernelRun0_A.sl.r_4, kernelRun0_A.sl.cst_22, k0_pay6, k0_pay7, k0_pay9, View.readAt_rep]
  simp only [← Nat.add_assoc, Nat.reduceAdd]

theorem am_r_8 (r : Fin 256) : kernelRun0_A.sl.r_8 arg3 arg4 arg5 arg6 x0 x1 x2 x3 (ix2 r 0) = max (kernelRun0_A.sl.r_5 arg3 arg4 arg5 arg6 x0 x1 x2 x3 (ix2 r 0)) (tmx x0 x1 x2 x3 1024 (by norm_num) r) := by
  unfold tmx hT hOf
  pointwise [kernelRun0_A.sl.r_8, kernelRun0_A.sl.r_1, kernelRun0_A.sl.r_2, kernelRun0_A.sl.r_6, kernelRun0_A.sl.r_7, k0_pay10, k0_pay11, k0_pay13, View.readAt_rep]
  simp only [← Nat.add_assoc, Nat.reduceAdd]

theorem am_r_11 (r : Fin 256) : kernelRun0_A.sl.r_11 arg3 arg4 arg5 arg6 x0 x1 x2 x3 (ix2 r 0) = max (max (kernelRun0_A.sl.r_8 arg3 arg4 arg5 arg6 x0 x1 x2 x3 (ix2 r 0)) (tmx x0 x1 x2 x3 1536 (by norm_num) r)) (tmx x0 x1 x2 x3 2048 (by norm_num) r) := by
  unfold tmx hT hOf
  pointwise [kernelRun0_A.sl.r_11, kernelRun0_A.sl.r_1, kernelRun0_A.sl.r_2, kernelRun0_A.sl.r_9, kernelRun0_A.sl.r_10, k0_pay14, k0_pay15, k0_pay16, k0_pay18, k0_pay20, View.readAt_rep]
  simp only [← Nat.add_assoc, Nat.reduceAdd]

theorem am_r_12 (r : Fin 256) : kernelRun0_A.sl.r_12 arg3 arg4 arg5 arg6 x0 x1 x2 x3 (ix2 r 0) = max (kernelRun0_A.sl.r_11 arg3 arg4 arg5 arg6 x0 x1 x2 x3 (ix2 r 0)) (tmx x0 x1 x2 x3 2560 (by norm_num) r) := by
  unfold tmx hT hOf
  pointwise [kernelRun0_A.sl.r_12, kernelRun0_A.sl.r_1, kernelRun0_A.sl.r_2, k0_pay21, k0_pay23, View.readAt_rep]
  simp only [← Nat.add_assoc, Nat.reduceAdd]

theorem am_r_14 (r : Fin 256) : kernelRun0_A.sl.r_14 arg3 arg4 arg5 arg6 x0 x1 x2 x3 (ix2 r 0) = max (kernelRun0_A.sl.r_12 arg3 arg4 arg5 arg6 x0 x1 x2 x3 (ix2 r 0)) (tmx x0 x1 x2 x3 3072 (by norm_num) r) := by
  unfold tmx hT hOf
  pointwise [kernelRun0_A.sl.r_14, kernelRun0_A.sl.r_1, kernelRun0_A.sl.r_2, kernelRun0_A.sl.r_13, k0_pay24, k0_pay25, k0_pay27, View.readAt_rep]
  simp only [← Nat.add_assoc, Nat.reduceAdd]

/-- The greatest magnitude of a row of the hidden layer. -/
def hmx (r : Fin 256) : EReal :=
  Finset.fold max (Ideal.ofBits FTy.f32 4286578688#32)
    (fun k : Fin 4096 => FloatOps.absf (F := Ideal) (φ := .f32) (hT x0 x1 x2 x3 r k)) Finset.univ

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.2 h)

theorem hmx_eq (r : Fin 256) : max (kernelRun0_A.sl.r_14 arg3 arg4 arg5 arg6 x0 x1 x2 x3 (ix2 r 0)) (tmx x0 x1 x2 x3 3584 (by norm_num) r) = hmx x0 x1 x2 x3 r := by
  rw [am_r_14, am_r_12, am_r_11, am_r_8, am_r_5, am_r_3]
  apply eq_of_forall_ge_iff
  intro X
  unfold tmx hmx
  simp only [max_le_iff, Finset.fold_max_le, Q.ninf_word, bot_le, true_and, Finset.mem_univ, forall_const]
  constructor
  · rintro ⟨⟨⟨⟨⟨⟨⟨⟨_, h0⟩, h1⟩, h2⟩, h3⟩, h4⟩, h5⟩, h6⟩, h7⟩ k
    have e : ∀ (o : ℕ) (_ : o + 512 ≤ 4096) (_ : o ≤ k) (hk : k < o + 512)
        (_ : ∀ t : Fin 512, FloatOps.absf (F := Ideal) (φ := .f32) (hT x0 x1 x2 x3 r ⟨o + t, by omega⟩) ≤ X),
        FloatOps.absf (F := Ideal) (φ := .f32) (hT x0 x1 x2 x3 r k) ≤ X := by
      intro o ho hk hk' h
      have := h ⟨k - o, by omega⟩
      have e : (⟨o + (k - o), by omega⟩ : Fin 4096) = k := Fin.ext (by simp; omega)
      simp only [e] at this
      exact this
    rcases lt_or_ge k.val 512 with c0 | c0
    · exact e 0 (by omega) (by omega) (by omega) h0
    rcases lt_or_ge k.val 1024 with c1 | c1
    · exact e 512 (by omega) (by omega) (by omega) h1
    rcases lt_or_ge k.val 1536 with c2 | c2
    · exact e 1024 (by omega) (by omega) (by omega) h2
    rcases lt_or_ge k.val 2048 with c3 | c3
    · exact e 1536 (by omega) (by omega) (by omega) h3
    rcases lt_or_ge k.val 2560 with c4 | c4
    · exact e 2048 (by omega) (by omega) (by omega) h4
    rcases lt_or_ge k.val 3072 with c5 | c5
    · exact e 2560 (by omega) (by omega) (by omega) h5
    rcases lt_or_ge k.val 3584 with c6 | c6
    · exact e 3072 (by omega) (by omega) (by omega) h6
    · exact e 3584 (by omega) (by omega) (by omega) h7
  · intro h
    exact ⟨⟨⟨⟨⟨⟨⟨⟨(absf_nonneg _).trans (h 0), fun t => h _⟩, fun t => h _⟩, fun t => h _⟩, fun t => h _⟩, fun t => h _⟩, fun t => h _⟩,
      fun t => h _⟩, fun t => h _⟩

theorem expo (r : Fin 256) : kernelRun0_A.sl.r_18 arg3 arg4 arg5 arg6 x0 x1 x2 x3 (ix2 r 0) = kE (hmx x0 x1 x2 x3 r) := by
  rw [← hmx_eq arg3 arg4 arg5 arg6]
  have h : kernelRun0_A.sl.r_18 arg3 arg4 arg5 arg6 x0 x1 x2 x3 (ix2 r 0) = kE (max (kernelRun0_A.sl.r_14 arg3 arg4 arg5 arg6 x0 x1 x2 x3 (ix2 r 0))
      (Finset.fold max (Ideal.ofBits FTy.f32 4286578688#32)
        (fun t : Fin 512 => FloatOps.absf (F := Ideal) (φ := .f32)
          (k0_pay31 (kernelRun0_A.sl.r_15 arg3 arg4 arg5 arg6 x0 x1 x2 x3) (kernelRun0_A.sl.r_16 arg3 arg4 arg5 x0 x1 x2) (kernelRun0_A.sl.r_17 arg6 x3) (ix2 r t))) Finset.univ)) := by
    unfold kernelRun0_A.sl.r_18
    generalize kernelRun0_A.sl.r_14 arg3 arg4 arg5 arg6 x0 x1 x2 x3 = v202
    generalize kernelRun0_A.sl.r_15 arg3 arg4 arg5 arg6 x0 x1 x2 x3 = v211
    generalize kernelRun0_A.sl.r_16 arg3 arg4 arg5 x0 x1 x2 = v216
    generalize kernelRun0_A.sl.r_17 arg6 x3 = v218
    pointwise [k0_pay33]
    unfold kE kCnt fieldWord
    simp only [ne_eq, not_true_eq_false, if_false]
  refine h.trans (congrArg kE (congrArg (max _) ?_))
  unfold tmx hT hOf
  pointwise [kernelRun0_A.sl.r_15, kernelRun0_A.sl.r_16, kernelRun0_A.sl.r_17, kernelRun0_A.sl.r_1, kernelRun0_A.sl.r_2, k0_pay31, k0_pay30, k0_pay29, k0_pay28, View.readAt_rep]
  simp only [← Nat.add_assoc, Nat.reduceAdd]

/-- A tile's result at row `r`, column `j`. -/
def oT (r : Fin 256) (j : Fin 2048) : EReal :=
  oOf (hT x0 x1 x2 x3 r) (hmx x0 x1 x2 x3 r) (fun x => x4 (ix3 0 j x)) (x5 (ix3 0 0 j))

theorem oT_emb (o : ℕ) (ho : o + 512 ≤ 2048) (inb) (a : Fin 256) (b : Fin 512) :
    oT x0 x1 x2 x3 x4 x5 ((Rect.unit (s := S256x2048) ![0, o] ![256, 512] inb).emb (ix2 a b) 0)
      ((Rect.unit (s := S256x2048) ![0, o] ![256, 512] inb).emb (ix2 a b) 1) = oT x0 x1 x2 x3 x4 x5 a ⟨o + b, by omega⟩ := by
  congr 1
  · exact Fin.ext (by show 0 + 1 * a.val = a.val; omega)
  · exact Fin.ext (by show o + 1 * b.val = o + b.val; omega)

/-- What a tile's stores leave in the result's buffer. -/
theorem tile (y : S256x2048.Idx) :
    View.canon (kernelRun0_A.sl.HO6_4 arg3 arg4 arg5 arg6 arg7 arg8 x0 x1 x2 x3 x4 x5) y = oT x0 x1 x2 x3 x4 x5 (y 0) (y 1) := by
  refine View.canon_apply_of_pieces (Val := Elt Ideal) (e := .f32) (S := S256x2048) (fun y => oT x0 x1 x2 x3 x4 x5 (y 0) (y 1)) _ ?_ y ?_
  · unfold kernelRun0_A.sl.HO6_4
    simp only [List.forall_mem_cons, List.not_mem_nil, IsEmpty.forall_iff, implies_true, and_true]
    refine ⟨?_, ?_, ?_, ?_⟩
    all_goals intro x
    all_goals idx_vars x
    all_goals refine Eq.trans ?_ (oT_emb _ _ _ _ _ _ _ (by norm_num) _ _ _).symm
    all_goals unfold oT oOf kI kS fieldWord
    all_goals simp only [← v231 arg3 arg4 arg5 arg6, ← expo arg3 arg4 arg5 arg6]
    all_goals pointwise [kernelRun0_A.sl.r_18, kernelRun0_A.sl.r_19, kernelRun0_A.sl.r_20, kernelRun0_A.sl.r_21, kernelRun0_A.sl.r_22, k0_pay1, k0_pay2, k0_pay34, k0_pay35, k0_pay36, k0_pay37, k0_pay38, View.readAt_rep]
  · exact View.cover_of_tiledL (kernelRun0_A.sl.HO6_4 arg3 arg4 arg5 arg6 arg7 arg8 x0 x1 x2 x3 x4 x5) S256x512.size (by sl_kernel_rfl) y

end Cert.KernelIdeal.Tile
-- ==== Proof.TabsKernelIdeal.lean ====
/- The expert table and the tile count, arbitrary within their ranges: the pipeline's configuration at them, each point's
   path (the tile computes, or it does not), and when the result's buffer is written back. -/
module

public import proofs.«01_k».proof.Proof.Gen.KernelIdeal.Flash.Runs
public import Idealize.ShloMosaic.Lib.Pipeline.Kit
public import Idealize.ShloMosaic.Lib.Pipeline.TableIdle

@[expose] public section

set_option maxRecDepth 16384
set_option Elab.async false

noncomputable section

namespace Cert.KernelIdeal.Tab

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Tables in range: every tile's expert one of the eight, at least one tile. -/
structure Tabs where
  g : S200.Idx → BitVec 32
  n : S1.Idx → BitVec 32
  hg : ∀ x, (g x).toNat < 8
  hn : ∀ x, 0 < (n x).toInt

variable (ch : Tabs)

def pinT_0 (ch : Tabs) : S200.Idx → BitVec 32 := ch.g
def pinT_1 (ch : Tabs) : S1.Idx → BitVec 32 := ch.n

def ix1 : S1.Idx := fun a => ⟨0, by fin_cases a; decide⟩

/-- The tile count's word. -/
def ntw : BitVec 32 := ch.n ix1
/-- The tile count. -/
def ntn : ℕ := (ntw ch).toNat

theorem n_eq (x : S1.Idx) : ch.n x = ntw ch := congrArg ch.n (funext fun a => by
  match a with
  | ⟨0, _⟩ => exact Fin.ext (by have h := (x 0).isLt; change (x 0).val < 1 at h; show (x 0).val = 0; omega))

theorem ntw_toInt : (ntw ch).toInt = (ntn ch : ℤ) := by
  have h := ch.hn ix1
  change 0 < (ntw ch).toInt at h
  unfold ntn
  rw [BitVec.toInt_eq_toNat_cond] at h ⊢
  split <;> omega

theorem ntn_pos : 1 ≤ ntn ch := by
  have h := ch.hn ix1
  change 0 < (ntw ch).toInt at h
  rw [ntw_toInt] at h; omega

theorem ntn_lt : ntn ch < 2 ^ 31 := by
  have h := ch.hn ix1
  change 0 < (ntw ch).toInt at h
  unfold ntn
  rw [BitVec.toInt_eq_toNat_cond] at h
  split at h <;> omega

set_option backward.proofsInPublic true in
/-- The tables' contents. -/
def pfN : pre0.Contents (Elt Ideal) := fun | ⟨0, _⟩ => pinT_0 ch | ⟨1, _⟩ => pinT_1 ch | ⟨_ + 2, h⟩ => absurd h (by simp)

/-- The launch memory's tables are `ch`. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

/-- The row-block index both index maps compute. -/
theorem min_word (k : ℕ) (hk : k < 200) :
    (Scalar.minsi (BitVec.ofNat 32 k) (Scalar.subi (ntw ch) 1#32)).toNat = min k (ntn ch - 1) := by
  have h1 := ntn_pos ch
  have h2 := ntn_lt ch
  have hsub : (Scalar.subi (ntw ch) 1#32).toNat = ntn ch - 1 := by
    show (ntw ch - 1#32).toNat = _
    rw [BitVec.toNat_sub]
    change (2 ^ 32 - 1 + ntn ch) % 2 ^ 32 = _
    omega
  have hk' : (BitVec.ofNat 32 k).toNat = k := by rw [BitVec.toNat_ofNat]; omega
  have hi1 : (BitVec.ofNat 32 k).toInt = (k : ℤ) := by
    rw [BitVec.toInt_eq_toNat_cond, hk']; split <;> omega
  have hi2 : (Scalar.subi (ntw ch) 1#32).toInt = ((ntn ch - 1 : ℕ) : ℤ) := by
    rw [BitVec.toInt_eq_toNat_cond, hsub]; split <;> omega
  generalize Scalar.subi (ntw ch) 1#32 = w at *
  unfold Scalar.minsi
  show (if (BitVec.ofNat 32 k).slt w then BitVec.ofNat 32 k else w).toNat = _
  rw [BitVec.slt_eq_decide, hi1, hi2]
  split <;> rename_i h <;> simp only [decide_eq_true_eq] at h
  · rw [hk']; omega
  · rw [hsub]; omega

theorem crd0 : ∀ t : Fin grid0.N, (grid0.coords t 0).val = t.val := by decide +kernel

theorem tf0 (i : grid0.Coords) : cc0_transform_0 inb_S1_S1_0 numel1_S1 (pfN ch) i = ![min (i 0).val (ntn ch - 1), 0] := by
  unfold cc0_transform_0
  have e : (pfN ch).at 1 (Rect.unit (s := S1) ![0] S1.size inb_S1_S1_0) numel1_S1 = ntw ch := n_eq ch _
  simp only [e, min_word ch (i 0).val (i 0).isLt]
  rfl
theorem tf1 (i : grid0.Coords) : cc0_transform_1 inb_S1_S1_0 numel1_S1 (pfN ch) i = ![min (i 0).val (ntn ch - 1), 0] := tf0 ch i
theorem tf6 (i : grid0.Coords) : cc0_transform_6 inb_S1_S1_0 numel1_S1 (pfN ch) i = ![min (i 0).val (ntn ch - 1), 0] := tf0 ch i

/-- The expert of point `i`. -/
def ixg (i : grid0.Coords) : S200.Idx := fun a => ⟨(i 0).val, by fin_cases a; exact (i 0).isLt⟩
def gid (i : grid0.Coords) : ℕ := (ch.g (ixg i)).toNat

theorem gid_lt (i : grid0.Coords) : gid ch i < 8 := ch.hg _

theorem tf2 (i : grid0.Coords) : cc0_transform_2 k0_off1_inb numel1_S1 (pfN ch) i = ![gid ch i, 0, 0] := by
  unfold cc0_transform_2
  have e : (pfN ch).at 0 (Rect.unit (s := S200) (k0_off1 i) S1.size (k0_off1_inb i)) numel1_S1
      = ch.g (ixg i) := by
    refine congrArg ch.g (funext fun a => ?_)
    match a with
    | ⟨0, _⟩ => exact Fin.ext (by
        have hk : (i 0).val < 200 := (i 0).isLt
        show (BitVec.ofNat 32 (i 0).val).toNat + 1 * 0 = (i 0).val
        rw [BitVec.toNat_ofNat]; omega)
  have e' := congrArg BitVec.toNat e
  funext a
  fin_cases a
  · exact e'
  · rfl
  · rfl
theorem tf3 (i : grid0.Coords) : cc0_transform_3 k0_off1_inb numel1_S1 (pfN ch) i = ![gid ch i, 0, 0] := tf2 ch i
theorem tf4 (i : grid0.Coords) : cc0_transform_4 k0_off1_inb numel1_S1 (pfN ch) i = ![gid ch i, 0, 0] := tf2 ch i
theorem tf5 (i : grid0.Coords) : cc0_transform_5 k0_off1_inb numel1_S1 (pfN ch) i = ![gid ch i, 0, 0] := tf2 ch i

theorem row_lt (i : grid0.Coords) : min (i 0).val (ntn ch - 1) < 200 := lt_of_le_of_lt (min_le_left _ _) (i 0).isLt

set_option backward.proofsInPublic true in
/-- Every block lies inside its array. -/
theorem ok_pfN : ok0 (F := Ideal) (pfN ch) := by
  refine ⟨fun i => ⟨?_, .inr (Affine.block_words_dvd (s := S51200x2048) (p := EltTy.packing .fp8e4m3) (by decide) (by decide))⟩,
    fun i => ⟨?_, .inl rfl⟩,
    fun i => ⟨?_, .inr (Affine.block_words_dvd (s := S8x8192x2048) (p := EltTy.packing .fp8e4m3) (by decide) (by decide))⟩,
    fun i => ⟨?_, .inl rfl⟩,
    fun i => ⟨?_, .inr (Affine.block_words_dvd (s := S8x2048x4096) (p := EltTy.packing .fp8e4m3) (by decide) (by decide))⟩,
    fun i => ⟨?_, .inl rfl⟩, fun i => ⟨?_, .inl rfl⟩⟩
  · rw [tf0]; have h := row_lt ch i; intro a; fin_cases a
    · show (min (i 0).val (ntn ch - 1) + 1) * 256 ≤ 51200; omega
    · show (0 + 1) * 2048 ≤ 2048; omega
  · rw [tf1]; have h := row_lt ch i; intro a; fin_cases a
    · show (min (i 0).val (ntn ch - 1) + 1) * 256 ≤ 51200; omega
    · show (0 + 1) * 1 ≤ 1; omega
  · rw [tf2]; have h := gid_lt ch i; intro a; fin_cases a
    · show (gid ch i + 1) * 1 ≤ 8; omega
    · show (0 + 1) * 8192 ≤ 8192; omega
    · show (0 + 1) * 2048 ≤ 2048; omega
  · rw [tf3]; have h := gid_lt ch i; intro a; fin_cases a
    · show (gid ch i + 1) * 1 ≤ 8; omega
    · show (0 + 1) * 1 ≤ 1; omega
    · show (0 + 1) * 8192 ≤ 8192; omega
  · rw [tf4]; have h := gid_lt ch i; intro a; fin_cases a
    · show (gid ch i + 1) * 1 ≤ 8; omega
    · show (0 + 1) * 2048 ≤ 2048; omega
    · show (0 + 1) * 4096 ≤ 4096; omega
  · rw [tf5]; have h := gid_lt ch i; intro a; fin_cases a
    · show (gid ch i + 1) * 1 ≤ 8; omega
    · show (0 + 1) * 1 ≤ 1; omega
    · show (0 + 1) * 2048 ≤ 2048; omega
  · rw [tf6]; have h := row_lt ch i; intro a; fin_cases a
    · show (min (i 0).val (ntn ch - 1) + 1) * 256 ≤ 51200; omega
    · show (0 + 1) * 2048 ≤ 2048; omega

/-- The admissible contents, the pipeline at them. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S256x2048 .fp8e4m3 := spec0_0.stage ((cfgA ch).slots t (0 : Fin 7))
abbrev hs0_0 (t : Fin (cfgA ch).N) : (ms0_0 ch t).IsWhole := hstage0_0 (((cfgA ch).slots t (0 : Fin 7)).cast nbuf0_0)
abbrev ms0_1 (t : Fin (cfgA ch).N) : Memref sig .tc .vmem S256x1 .f32 := spec0_1.stage ((cfgA ch).slots t (1 : Fin 7))
abbrev hs0_1 (t : Fin (cfgA ch).N) : (ms0_1 ch t).IsWhole := hstage0_1 (((cfgA ch).slots t (1 : Fin 7)).cast nbuf0_1)
abbrev ms0_2 (t : Fin (cfgA ch).N) : Memref sig .tc .vmem S1x8192x2048 .fp8e4m3 := spec0_2.stage ((cfgA ch).slots t (2 : Fin 7))
abbrev hs0_2 (t : Fin (cfgA ch).N) : (ms0_2 ch t).IsWhole := hstage0_2 (((cfgA ch).slots t (2 : Fin 7)).cast nbuf0_2)
abbrev ms0_3 (t : Fin (cfgA ch).N) : Memref sig .tc .vmem S1x1x8192 .f32 := spec0_3.stage ((cfgA ch).slots t (3 : Fin 7))
abbrev hs0_3 (t : Fin (cfgA ch).N) : (ms0_3 ch t).IsWhole := hstage0_3 (((cfgA ch).slots t (3 : Fin 7)).cast nbuf0_3)
abbrev ms0_4 (t : Fin (cfgA ch).N) : Memref sig .tc .vmem S1x2048x4096 .fp8e4m3 := spec0_4.stage ((cfgA ch).slots t (4 : Fin 7))
abbrev hs0_4 (t : Fin (cfgA ch).N) : (ms0_4 ch t).IsWhole := hstage0_4 (((cfgA ch).slots t (4 : Fin 7)).cast nbuf0_4)
abbrev ms0_5 (t : Fin (cfgA ch).N) : Memref sig .tc .vmem S1x1x2048 .f32 := spec0_5.stage ((cfgA ch).slots t (5 : Fin 7))
abbrev hs0_5 (t : Fin (cfgA ch).N) : (ms0_5 ch t).IsWhole := hstage0_5 (((cfgA ch).slots t (5 : Fin 7)).cast nbuf0_5)
abbrev ms0_6 (t : Fin (cfgA ch).N) : Memref sig .tc .vmem S256x2048 .f32 := spec0_6.stage ((cfgA ch).slots t (6 : Fin 7))
abbrev hs0_6 (t : Fin (cfgA ch).N) : (ms0_6 ch t).IsWhole := hstage0_6 (((cfgA ch).slots t (6 : Fin 7)).cast nbuf0_6)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the pinned words (what tells the paths apart) -/

abbrev P0_0 (t : Fin (cfgA ch).N) : Prop := k0_cond1 (crd ch t) (View.readAt (Elt Ideal) (tbM0_1).view (Rect.unit (s := S1) ![0] S1.size inb_S1_S1_0).toLoadRect (pinT_1 ch) (Shape.Idx.first (numel1_S1.symm ▸ Nat.one_pos))) = 1#1

/-! ## The decisions and the write-backs -/

theorem cond_iff (k : ℕ) (hk : k < 200) (i : grid0.Coords) (hi : (i 0).val = k) : k0_cond1 i (ntw ch) = 1#1 ↔ k < ntn ch := by
  have h1 := ntn_pos ch
  have h2 := ntn_lt ch
  have hk' : (BitVec.ofNat 32 k).toNat = k := by rw [BitVec.toNat_ofNat]; omega
  have hi1 : (BitVec.ofNat 32 k).toInt = (k : ℤ) := by
    rw [BitVec.toInt_eq_toNat_cond, hk']; split <;> omega
  unfold k0_cond1
  simp only [hi]
  show BitVec.ofBool ((BitVec.ofBool ((BitVec.ofNat 32 k).slt (ntw ch))).setWidth 32 != 0#32) = 1#1 ↔ _
  rw [BitVec.slt_eq_decide, hi1, ntw_toInt]
  have hc : ((k : ℤ) < (ntn ch : ℤ)) ↔ k < ntn ch := by omega
  by_cases h : k < ntn ch
  · rw [decide_eq_true (hc.2 h)]; exact ⟨fun _ => h, fun _ => by decide⟩
  · rw [decide_eq_false (mt hc.1 h)]; exact ⟨fun e => absurd e (by decide), fun e => absurd e h⟩

theorem P0_iff (t : Fin (cfgA ch).N) : P0_0 ch t ↔ t.val < ntn ch := by
  unfold P0_0
  have e : View.readAt (Elt Ideal) (tbM0_1).view (Rect.unit (s := S1) ![0] S1.size inb_S1_S1_0).toLoadRect (pinT_1 ch) (Shape.Idx.first (numel1_S1.symm ▸ Nat.one_pos)) = ntw ch := n_eq ch _
  rw [e]
  exact cond_iff ch t.val t.isLt _ (crd0 t)

theorem idle_eq (t : Fin (cfgA ch).N) : (cfgA ch).idle (6 : Fin 7) ((cfgA ch).grid.coords t) = !decide (t.val < ntn ch) := by
  have e : (pfN ch).atD 1 ![0] = ntw ch := n_eq ch _
  show (!(k0_cond1 (grid0.coords t) ((pfN ch).atD 1 ![0]) == 1#1)) = _
  rw [e]
  congr 1
  have h := cond_iff ch t.val t.isLt _ (crd0 t)
  by_cases hb : t.val < ntn ch
  · rw [h.2 hb]; simp only [hb, decide_true]; rfl
  · have h' := mt h.1 hb
    simp only [hb, decide_false]; exact beq_false_of_ne h'

theorem index6 (t : Fin (cfgA ch).N) : ((cfgA ch).win (6 : Fin 7)).index t = ![min t.val (ntn ch - 1), 0] := by
  show cc0_transform_6 inb_S1_S1_0 numel1_S1 (pfN ch) (grid0.coords t) = _
  rw [tf6, crd0]

theorem flush_eq (t : Fin (cfgA ch).N) : ((cfgA ch).win (6 : Fin 7)).flush t = decide (t.val + 1 < ntn ch ∨ t.val + 1 = 200) := by
  have hN : (cfgA ch).grid.N = 200 := N_0
  have h1 := ntn_pos ch
  unfold Pipeline.Window.flush
  have ho : ((cfgA ch).win (6 : Fin 7)).isOut = true := rfl
  rw [ho, Bool.true_and]
  rw [Bool.eq_iff_iff]
  simp only [Bool.or_eq_true, decide_eq_true_eq]
  constructor
  · rintro (h | ⟨h, hne⟩)
    · exact .inr (h.trans hN)
    · rw [index6 ch ⟨t.val + 1, h⟩, index6 ch t] at hne
      by_contra hc
      apply hne
      have : min (t.val + 1) (ntn ch - 1) = min t.val (ntn ch - 1) := by omega
      show ![min (t.val + 1) (ntn ch - 1), 0] = _
      rw [this]
  · rintro (h | h)
    · by_cases hl : t.val + 1 = (cfgA ch).grid.N
      · exact .inl hl
      · have hlt : t.val + 1 < (cfgA ch).grid.N := by have := t.isLt; change t.val < (cfgA ch).grid.N at this; omega
        refine .inr ⟨hlt, fun he => ?_⟩
        rw [index6 ch ⟨t.val + 1, hlt⟩, index6 ch t] at he
        have h0 := congrFun he 0
        change min (t.val + 1) (ntn ch - 1) = min t.val (ntn ch - 1) at h0
        omega
    · exact .inl (h.trans hN.symm)

/-- Whether the result's buffer holds nothing stored, before each position. -/
def frTab0_6 (n : ℕ) : Bool := decide (n < ntn ch ∨ n = 0 ∨ n = 200)

theorem fresh_eq (n : ℕ) (hn : n ≤ 200) : (cfgA ch).fresh (6 : Fin 7) n = frTab0_6 ch n := by
  have hN : (cfgA ch).N = 200 := N_0
  have h1 := ntn_pos ch
  refine Pipeline.Cfg.fresh_tab (cfgA ch) (6 : Fin 7) (frTab0_6 ch) (by simp [frTab0_6]) (fun t => ?_) n (le_of_le_of_eq hn hN.symm)
  rw [flush_eq, idle_eq]
  unfold frTab0_6
  have ht : t.val < 200 := lt_of_lt_of_eq t.isLt hN
  rw [Bool.eq_iff_iff]
  simp only [Bool.or_eq_true, Bool.and_eq_true, Bool.not_eq_true', decide_eq_true_eq, decide_eq_false_iff_not]
  omega

/-- Whether the scratch holds nothing stored. -/
def sfresh0_0 (n : ℕ) : Bool := decide (n = 0)

/-- A point that computes. -/
theorem sched0_A (t : Fin (cfgA ch).N) (h : P0_0 ch t) :
    (cfgA ch).idle (6 : Fin 7) ((cfgA ch).grid.coords t) = false ∧ (cfgA ch).fresh (6 : Fin 7) t.val = true ∧ sfresh0_0 (t.val + 1) = false := by
  have h' := (P0_iff ch t).1 h
  have ht : t.val < 200 := lt_of_lt_of_eq t.isLt N_0
  rw [idle_eq, fresh_eq ch _ ht.le]
  refine ⟨by simp [h'], by simp [frTab0_6, h'], by simp [sfresh0_0]⟩

/-- A point that does not. -/
theorem sched0_B (t : Fin (cfgA ch).N) (h : ¬P0_0 ch t) :
    (cfgA ch).idle (6 : Fin 7) ((cfgA ch).grid.coords t) = true ∧ (cfgA ch).fresh (6 : Fin 7) t.val = false ∧ sfresh0_0 t.val = false ∧ sfresh0_0 (t.val + 1) = false := by
  have h' := mt (P0_iff ch t).2 h
  have ht : t.val < 200 := lt_of_lt_of_eq t.isLt N_0
  have h1 := ntn_pos ch
  rw [idle_eq, fresh_eq ch _ ht.le]
  refine ⟨by simp [h'], ?_, ?_, by simp [sfresh0_0]⟩
  · simp only [frTab0_6, decide_eq_false_iff_not]; omega
  · simp only [sfresh0_0, decide_eq_false_iff_not]; omega

end Cert.KernelIdeal.Tab

end
-- ==== Proof.RunKernelIdeal.lean ====
/- The kernel call run to its end at tables in range: every point's body, the launch, and what every array holds after. -/
module

public import proofs.«01_k».proof.Proof.TabsKernelIdeal
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
-- ONE DECLARATION AT A TIME: a per-path run alone peaks near 3 GB, and a decided theorem's kernel evaluation is freed
-- only when the next declaration begins (side by side, every finished one is held to the module's end)
set_option Elab.async false

noncomputable section

namespace Cert.KernelIdeal.Tab

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The certificate is written at the CLOSED instance `Ideal` (the frame claim's): every pinned word a `BitVec`. -/
local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tabs)
variable (m : (ℓ : Loc nD τ sig) → Buf (Elt Ideal) ℓ) (ρ : Dev nD → PrngReg)

/-! ## What the outputs and scratches hold after each point -/

/-- One step of the trajectory: what the outputs' current buffers and the scratches hold after the body at point `t`
    (output 6, scratch 0), from what they held before (`prev`): the path the decisions select at `t`, its
    run's contents; an output the path leaves idle keeps what it held (junk — `default`, named by nothing — where fresh). -/
def step0 (c : Dev nD) (t : Fin (cfgA ch).N) (prev : (S256x2048.Idx → Elt Ideal .f32) × Buf (Elt Ideal) ((c : Thread nD τ).loc cc0_scratch0)) : (S256x2048.Idx → Elt Ideal .f32) × Buf (Elt Ideal) ((c : Thread nD τ).loc cc0_scratch0) :=
  if q0 : P0_0 ch t then
    (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0).2.1)
  else
    ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 q0).1)

/-- THE TRAJECTORY: after position `n`. -/
def traj0 (c : Dev nD) : (n : ℕ) → n < (cfgA ch).N → (S256x2048.Idx → Elt Ideal .f32) × Buf (Elt Ideal) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S256x2048.Idx → Elt Ideal .f32) × Buf (Elt Ideal) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S256x2048.Idx → Elt Ideal .f32) × Buf (Elt Ideal) ((c : Thread nD τ).loc cc0_scratch0)) (q0 : P0_0 ch t) :
    step0 ch m ρ c t prev = (out0_A_6 c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) q0).2.1) := by
  unfold step0; simp only [dif_pos q0]

/-- `step0` at a point of path B. -/
theorem step0_B (c : Dev nD) (t : Fin (cfgA ch).N) (prev : (S256x2048.Idx → Elt Ideal .f32) × Buf (Elt Ideal) ((c : Thread nD τ).loc cc0_scratch0)) (q0 : ¬P0_0 ch t) :
    step0 ch m ρ c t prev = ((if (cfgA ch).fresh (6 : Fin 7) t.val then default else prev.1), (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) prev.2 q0).1) := by
  unfold step0; simp only [dif_neg q0]

/-! ## The pipeline's proof data -/

/-- What the tracked buffers held before position `t` of `Fin (N+1)` (the invariant's index). -/
def prev0T (c : Dev nD) (t : Fin ((cfgA ch).N + 1)) : (S256x2048.Idx → Elt Ideal .f32) × Buf (Elt Ideal) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 7) t
    | ⟨1, _⟩ => iblk ch m ρ c (1 : Fin 7) t
    | ⟨2, _⟩ => iblk ch m ρ c (2 : Fin 7) t
    | ⟨3, _⟩ => iblk ch m ρ c (3 : Fin 7) t
    | ⟨4, _⟩ => iblk ch m ρ c (4 : Fin 7) t
    | ⟨5, _⟩ => iblk ch m ρ c (5 : Fin 7) t
    | ⟨6, _⟩ => (traj0 ch m ρ c t.val t.isLt).1
  Φ t := Phi ch m ρ c t
  q _ := fullShare
  owed _ := 0

theorem after0_0 (c : Dev nD) (t : Fin (cfgA ch).N) : (dats ch m ρ 0 c).after (0 : Fin 7) t = iblk ch m ρ c (0 : Fin 7) t := rfl
theorem after0_1 (c : Dev nD) (t : Fin (cfgA ch).N) : (dats ch m ρ 0 c).after (1 : Fin 7) t = iblk ch m ρ c (1 : Fin 7) t := rfl
theorem after0_2 (c : Dev nD) (t : Fin (cfgA ch).N) : (dats ch m ρ 0 c).after (2 : Fin 7) t = iblk ch m ρ c (2 : Fin 7) t := rfl
theorem after0_3 (c : Dev nD) (t : Fin (cfgA ch).N) : (dats ch m ρ 0 c).after (3 : Fin 7) t = iblk ch m ρ c (3 : Fin 7) t := rfl
theorem after0_4 (c : Dev nD) (t : Fin (cfgA ch).N) : (dats ch m ρ 0 c).after (4 : Fin 7) t = iblk ch m ρ c (4 : Fin 7) t := rfl
theorem after0_5 (c : Dev nD) (t : Fin (cfgA ch).N) : (dats ch m ρ 0 c).after (5 : Fin 7) t = iblk ch m ρ c (5 : Fin 7) t := rfl
theorem after0_6 (c : Dev nD) (t : Fin (cfgA ch).N) : (dats ch m ρ 0 c).after (6 : Fin 7) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 7) t d = iblk ch m ρ c (0 : Fin 7) t :=
  ((dats ch m ρ 0 c).before_in_eq_fetched (0 : Fin 7) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 7) t d = iblk ch m ρ c (1 : Fin 7) t :=
  ((dats ch m ρ 0 c).before_in_eq_fetched (1 : Fin 7) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 7) t d = iblk ch m ρ c (2 : Fin 7) t :=
  ((dats ch m ρ 0 c).before_in_eq_fetched (2 : Fin 7) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 7) t d = iblk ch m ρ c (3 : Fin 7) t :=
  ((dats ch m ρ 0 c).before_in_eq_fetched (3 : Fin 7) rfl (fun _ => rfl) (fun _ _ _ => rfl) (fun t => by rw [after0_3]; unfold Dat.blockOf iblk; rfl) t d).trans
    (by unfold Dat.fetched Dat.blockOf iblk; rfl)

/-- Input window 4 holds its block, fetched there or not (Lib/Pipeline/FrameBody.lean `Dat.before_in_eq_fetched`). -/
theorem before0_4 (c : Dev nD) (t : Fin (cfgA ch).N) (d) : (dats ch m ρ 0 c).before (4 : Fin 7) t d = iblk ch m ρ c (4 : Fin 7) t :=
  ((dats ch m ρ 0 c).before_in_eq_fetched (4 : Fin 7) rfl (fun _ => rfl) (fun _ _ _ => rfl) (fun t => by rw [after0_4]; unfold Dat.blockOf iblk; rfl) t d).trans
    (by unfold Dat.fetched Dat.blockOf iblk; rfl)

/-- Input window 5 holds its block, fetched there or not (Lib/Pipeline/FrameBody.lean `Dat.before_in_eq_fetched`). -/
theorem before0_5 (c : Dev nD) (t : Fin (cfgA ch).N) (d) : (dats ch m ρ 0 c).before (5 : Fin 7) t d = iblk ch m ρ c (5 : Fin 7) t :=
  ((dats ch m ρ 0 c).before_in_eq_fetched (5 : Fin 7) rfl (fun _ => rfl) (fun _ _ _ => rfl) (fun t => by rw [after0_5]; unfold Dat.blockOf iblk; rfl) t d).trans
    (by unfold Dat.fetched Dat.blockOf iblk; rfl)

/-- Output 6's `after` carries through the points that leave it idle. -/
theorem hcarry0_6 (c : Dev nD) : ∀ (t : Fin (cfgA ch).N) (ht : t.val ≠ 0), (cfgA ch).idle (6 : Fin 7) ((cfgA ch).grid.coords t) = true → (cfgA ch).fresh (6 : Fin 7) t.val = false →
    (dats ch m ρ 0 c).after (6 : Fin 7) t = (dats ch m ρ 0 c).after (6 : Fin 7) ⟨t.val - 1, by omega⟩ := by
  intro t ht hi hf
  rw [after0_6, after0_6, traj0_eq]
  by_cases q0 : P0_0 ch t
  · obtain ⟨i6, -, -⟩ := sched0_A ch t q0
    rw [i6] at hi; exact absurd hi (by decide)
  · rw [step0_B ch m ρ c t _ q0]
    simp only [hf, Bool.false_eq_true, ↓reduceIte]
    unfold prev0; rw [dif_neg ht]

/-- Output window 6 holds, when the body runs at `t`: junk if nothing was stored since its last write-back (`Cfg.fresh`),
    else what the point before left (TableIdle.lean `Dat.before_out_traj`). -/
theorem before0_6 (c : Dev nD) (t : Fin (cfgA ch).N) (d) :
    (dats ch m ρ 0 c).before (6 : Fin 7) t d = if (cfgA ch).fresh (6 : Fin 7) t.val then d else (prev0 ch m ρ c t).1 := by
  rw [(dats ch m ρ 0 c).before_out_traj (6 : Fin 7) rfl (fun _ _ => rfl) (hcarry0_6 ch m ρ c) t.val t rfl d]
  by_cases hf : (cfgA ch).fresh (6 : Fin 7) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_6]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_ffn (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (Memref.whole cc0_scratch0) (Memref.isWhole_whole _)

set_option maxHeartbeats 4000000 in
/-- THE BODY OBLIGATION at point `t`: the decisions there tell the path (`by_cases` on `P0_·`); its hypotheses and schedule are
    the facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 7) t d))
        ∗ (∃ d, owns (c : Thread nD τ) (ms0_1 ch t) fullShare ((dats ch m ρ 0 c).before (1 : Fin 7) t d))
        ∗ (∃ d, owns (c : Thread nD τ) (ms0_2 ch t) fullShare ((dats ch m ρ 0 c).before (2 : Fin 7) t d))
        ∗ (∃ d, owns (c : Thread nD τ) (ms0_3 ch t) fullShare ((dats ch m ρ 0 c).before (3 : Fin 7) t d))
        ∗ (∃ d, owns (c : Thread nD τ) (ms0_4 ch t) fullShare ((dats ch m ρ 0 c).before (4 : Fin 7) t d))
        ∗ (∃ d, owns (c : Thread nD τ) (ms0_5 ch t) fullShare ((dats ch m ρ 0 c).before (5 : Fin 7) t d))
        ∗ (∃ d, owns (c : Thread nD τ) (ms0_6 ch t) fullShare ((dats ch m ρ 0 c).before (6 : Fin 7) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i6, fr6, sfn0⟩ := sched0_A ch t q0
    have k0_h1 := q0
    rewrite [i6]
    simp only [before0_0, before0_1, before0_2, before0_3, before0_4, before0_5, before0_6, after0_0, after0_1, after0_2, after0_3, after0_4, after0_5, after0_6]
    simp only [fr6, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) k0_h1).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [HS0]; · iexact HS0
    iintro ⟨H0, H1, H2, H3, H4, H5, HT0, HT1, ⟨%e6, H6⟩, HS0⟩
    isplitl [HS0 HT0 HT1]
    · isplitl [HS0]
      · iexists _; isplitr; swap
        · iexact HS0
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    unfold owns; iexists _; isplitr; swap
    · iexact H6
    · ipureintro; exact View.read_writes_of_cover _ _ _ _ _ (cover0_A_6 c _ _ _ _ _ _ _ _ _ _ _ _ _ _ _ _ _ _ _ _ _ _ _ _)
  · obtain ⟨i6, fr6, sf0, sfn0⟩ := sched0_B ch t q0
    have k0_h1 := q0
    cases f6 : ((cfgA ch).win (6 : Fin 7)).flush t
    · rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      iintro ⟨H0, H1, H2, H3, H4, H5, HT0, HT1, H6, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6
    · rewrite [i6]
      simp only [before0_0, before0_1, before0_2, before0_3, before0_4, before0_5, before0_6, after0_0, after0_1, after0_2, after0_3, after0_4, after0_5, after0_6, f6]
      simp only [fr6, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0]
      unfold Phi; simp only [prev0T_castSucc, prev0T_succ, traj0_eq, step0_B ch m ρ c t _ q0, Fin.val_castSucc, Fin.val_succ, fr6, Bool.false_eq_true, ↓reduceIte]
      simp only [exists_held sf0]
      iintro ⟨⟨HS0, HT0, HT1⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (ms0_5 ch t) (hs0_5 ch t) (ms0_6 ch t) (hs0_6 ch t) (pinT_0 ch) (pinT_1 ch) (iblk ch m ρ c (0 : Fin 7) t) (iblk ch m ρ c (1 : Fin 7) t) (iblk ch m ρ c (2 : Fin 7) t) (iblk ch m ρ c (3 : Fin 7) t) (iblk ch m ρ c (4 : Fin 7) t) (iblk ch m ρ c (5 : Fin 7) t) _ k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [HS0]; · iexact HS0
      iintro ⟨H0, H1, H2, H3, H4, H5, HT0, HT1, H6, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      first | (iexists d6; iexact H6) | iexact H6

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are `ch`'s: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 0).trans (hp.1 c).symm, ((h c).2 1).trans (hp.2 c).symm, ((h c).1 (0 : Fin 7)).trans ((dats ch m ρ 0 c).arrAt_in (0 : Fin 7) rfl _), ((h c).1 (1 : Fin 7)).trans ((dats ch m ρ 0 c).arrAt_in (1 : Fin 7) rfl _), ((h c).1 (2 : Fin 7)).trans ((dats ch m ρ 0 c).arrAt_in (2 : Fin 7) rfl _), ((h c).1 (3 : Fin 7)).trans ((dats ch m ρ 0 c).arrAt_in (3 : Fin 7) rfl _), ((h c).1 (4 : Fin 7)).trans ((dats ch m ρ 0 c).arrAt_in (4 : Fin 7) rfl _), ((h c).1 (5 : Fin 7)).trans ((dats ch m ρ 0 c).arrAt_in (5 : Fin 7) rfl _)⟩) (run_main ch m ρ hp)

/-- From a launch memory whose tables are `ch`'s, every weakly fair
    execution terminates, nothing faults, every argument array ends unchanged and every semaphore counter of the machine reads
    zero at every final state — `Cert.quiescent_KernelIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged ch m ρ hp) ((θ_run defs _ _).mono (fun _ h => h.2) (run_main_quiescent ch m ρ hp))

end Cert.KernelIdeal.Tab

end
-- ==== Proof.ArrayKernelIdeal.lean ====
/- The kernel's result array after the run, over the extended reals: at every row of a computed tile, the row of that
   tile's expert. -/
module

public import proofs.«01_k».proof.Proof.TileKernelIdeal
public import proofs.«01_k».proof.Proof.RunKernelIdeal
public import Idealize.ShloMosaic.Lib.Pipeline.Covers

@[expose] public section

set_option maxRecDepth 16384
set_option Elab.async false

noncomputable section

namespace Cert.KernelIdeal.Tab

open Cert.KernelIdeal Cert.KernelIdeal.Gen Cert.KernelIdeal.Tile
open Idealize.ShloMosaic Idealize.SL.Sem
open Idealize.ShloMosaic.TcCoe
open Idealize.ShloMosaic.Pipeline (Dat Cfg Window)
open Cert.Q

variable (ch : Tabs)
variable (m : (ℓ : Loc nD τ sig) → Buf (Elt Ideal) ℓ) (ρ : Dev nD → PrngReg) (c : Dev nD)

abbrev aXs : S51200x2048.Idx → EReal := m ((c : Thread nD τ).loc main_arg2)
abbrev aSc : S51200x1.Idx → EReal := m ((c : Thread nD τ).loc main_arg3)
abbrev aWgu : S8x8192x2048.Idx → EReal := m ((c : Thread nD τ).loc main_arg4)
abbrev aSgu : S8x1x8192.Idx → EReal := m ((c : Thread nD τ).loc main_arg5)
abbrev aWd : S8x2048x4096.Idx → EReal := m ((c : Thread nD τ).loc main_arg6)
abbrev aSd : S8x1x2048.Idx → EReal := m ((c : Thread nD τ).loc main_arg7)

/-- The expert of tile `t`. -/
def gidF (t : Fin 200) : Fin 8 := ⟨(ch.g (Idealize.ShloMosaic.ix1 t)).toNat, ch.hg _⟩

/-- What the result array holds at the rows of the computed tiles. -/
def expectAt (R : Fin 51200) (j : Fin 2048) : EReal :=
  rowOut (aXs m c) (aSc m c) (aWgu m c) (aSgu m c) (aWd m c) (aSd m c) (gidF ch ⟨R.val / 256, by omega⟩) R j

def expect (y : S51200x2048.Idx) : EReal := expectAt ch m c (y 0) (y 1)

variable (t : Fin (cfgA ch).N) (ht : t.val < ntn ch)

theorem ht200 : t.val < 200 := lt_of_lt_of_eq t.isLt N_0

/-- The point's expert. -/
theorem gid_gidF : gid ch (crd ch t) = (gidF ch ⟨t.val, ht200 ch t⟩).val := by
  unfold gid gidF
  refine congrArg (fun x => (ch.g x).toNat) (funext fun a => ?_)
  match a with
  | ⟨0, _⟩ => exact Fin.ext (crd0 t)

include ht in
theorem min_t : min ((crd ch t) 0).val (ntn ch - 1) = t.val := by
  have := crd0 t
  show min ((grid0.coords t) 0).val _ = _
  rw [this]; omega

include ht in
/-- Each window's block at a computing point, element by element: rows of the tile, or the tile's expert's weights. -/
theorem blk0 (r : Fin 256) (x : Fin 2048) :
    iblk ch m ρ c (0 : Fin 7) t (ix2 r x) = aXs m c (ix2 ⟨t.val * 256 + r, by have := ht200 ch t; omega⟩ x) := by
  have hi : ((cfgA ch).win (0 : Fin 7)).index t = ![min ((crd ch t) 0).val (ntn ch - 1), 0] := tf0 ch (crd ch t)
  rw [min_t ch t ht] at hi
  refine congrArg (aXs m c) (funext fun a => Fin.ext ?_)
  refine (Pipeline.Window.rect_emb_val ((cfgA ch).win (0 : Fin 7)) t (ix2 r x) a).trans ?_
  rw [hi]
  match a with
  | ⟨0, _⟩ => rfl
  | ⟨1, _⟩ => show 0 * 2048 + x.val = x.val; omega

include ht in
theorem blk1 (r : Fin 256) :
    iblk ch m ρ c (1 : Fin 7) t (ix2 r 0) = aSc m c (ix2 ⟨t.val * 256 + r, by have := ht200 ch t; omega⟩ 0) := by
  have hi : ((cfgA ch).win (1 : Fin 7)).index t = ![min ((crd ch t) 0).val (ntn ch - 1), 0] := tf1 ch (crd ch t)
  rw [min_t ch t ht] at hi
  refine congrArg (aSc m c) (funext fun a => Fin.ext ?_)
  refine (Pipeline.Window.rect_emb_val ((cfgA ch).win (1 : Fin 7)) t (ix2 r 0) a).trans ?_
  rw [hi]
  match a with
  | ⟨0, _⟩ => rfl
  | ⟨1, _⟩ => rfl

theorem blk2 (k : Fin 8192) (x : Fin 2048) :
    iblk ch m ρ c (2 : Fin 7) t (ix3 0 k x) = aWgu m c (ix3 (gidF ch ⟨t.val, ht200 ch t⟩) k x) := by
  have hi : ((cfgA ch).win (2 : Fin 7)).index t = ![gid ch (crd ch t), 0, 0] := tf2 ch (crd ch t)
  rw [gid_gidF] at hi
  refine congrArg (aWgu m c) (funext fun a => Fin.ext ?_)
  refine (Pipeline.Window.rect_emb_val ((cfgA ch).win (2 : Fin 7)) t (ix3 0 k x) a).trans ?_
  rw [hi]
  match a with
  | ⟨0, _⟩ => show (gidF ch ⟨t.val, ht200 ch t⟩).val * 1 + 0 = (gidF ch ⟨t.val, ht200 ch t⟩).val; omega
  | ⟨1, _⟩ => show 0 * 8192 + k.val = k.val; omega
  | ⟨2, _⟩ => show 0 * 2048 + x.val = x.val; omega

theorem blk3 (k : Fin 8192) :
    iblk ch m ρ c (3 : Fin 7) t (ix3 0 0 k) = aSgu m c (ix3 (gidF ch ⟨t.val, ht200 ch t⟩) 0 k) := by
  have hi : ((cfgA ch).win (3 : Fin 7)).index t = ![gid ch (crd ch t), 0, 0] := tf3 ch (crd ch t)
  rw [gid_gidF] at hi
  refine congrArg (aSgu m c) (funext fun a => Fin.ext ?_)
  refine (Pipeline.Window.rect_emb_val ((cfgA ch).win (3 : Fin 7)) t (ix3 0 0 k) a).trans ?_
  rw [hi]
  match a with
  | ⟨0, _⟩ => show (gidF ch ⟨t.val, ht200 ch t⟩).val * 1 + 0 = (gidF ch ⟨t.val, ht200 ch t⟩).val; omega
  | ⟨1, _⟩ => rfl
  | ⟨2, _⟩ => show 0 * 8192 + k.val = k.val; omega

theorem blk4 (j : Fin 2048) (x : Fin 4096) :
    iblk ch m ρ c (4 : Fin 7) t (ix3 0 j x) = aWd m c (ix3 (gidF ch ⟨t.val, ht200 ch t⟩) j x) := by
  have hi : ((cfgA ch).win (4 : Fin 7)).index t = ![gid ch (crd ch t), 0, 0] := tf4 ch (crd ch t)
  rw [gid_gidF] at hi
  refine congrArg (aWd m c) (funext fun a => Fin.ext ?_)
  refine (Pipeline.Window.rect_emb_val ((cfgA ch).win (4 : Fin 7)) t (ix3 0 j x) a).trans ?_
  rw [hi]
  match a with
  | ⟨0, _⟩ => show (gidF ch ⟨t.val, ht200 ch t⟩).val * 1 + 0 = (gidF ch ⟨t.val, ht200 ch t⟩).val; omega
  | ⟨1, _⟩ => show 0 * 2048 + j.val = j.val; omega
  | ⟨2, _⟩ => show 0 * 4096 + x.val = x.val; omega

theorem blk5 (j : Fin 2048) :
    iblk ch m ρ c (5 : Fin 7) t (ix3 0 0 j) = aSd m c (ix3 (gidF ch ⟨t.val, ht200 ch t⟩) 0 j) := by
  have hi : ((cfgA ch).win (5 : Fin 7)).index t = ![gid ch (crd ch t), 0, 0] := tf5 ch (crd ch t)
  rw [gid_gidF] at hi
  refine congrArg (aSd m c) (funext fun a => Fin.ext ?_)
  refine (Pipeline.Window.rect_emb_val ((cfgA ch).win (5 : Fin 7)) t (ix3 0 0 j) a).trans ?_
  rw [hi]
  match a with
  | ⟨0, _⟩ => show (gidF ch ⟨t.val, ht200 ch t⟩).val * 1 + 0 = (gidF ch ⟨t.val, ht200 ch t⟩).val; omega
  | ⟨1, _⟩ => rfl
  | ⟨2, _⟩ => show 0 * 2048 + j.val = j.val; omega

/-- The result's block at a point sits at the rows of the last computed tile up to it. -/
theorem emb6 (y : S256x2048.Idx) (a : Fin 2) :
    ((((cfgA ch).win (6 : Fin 7)).rect t).emb y a : ℕ) = ![min t.val (ntn ch - 1) * 256 + (y 0).val, (y 1).val] a := by
  refine (Pipeline.Window.rect_emb_val ((cfgA ch).win (6 : Fin 7)) t y a).trans ?_
  rw [index6]
  match a with
  | ⟨0, _⟩ => rfl
  | ⟨1, _⟩ => show 0 * 2048 + (y 1).val = (y 1).val; omega

include ht in
/-- After a computing point the result's buffer holds the tile's rows. -/
theorem traj_A (y : S256x2048.Idx) :
    (traj0 ch m ρ c t.val t.isLt).1 y
      = rowOut (aXs m c) (aSc m c) (aWgu m c) (aSgu m c) (aWd m c) (aSd m c) (gidF ch ⟨t.val, ht200 ch t⟩)
          ⟨t.val * 256 + (y 0).val, by have := ht200 ch t; have := (y 0).isLt; change (y 0).val < 256 at this; omega⟩ (y 1) := by
  rw [traj0_eq, step0_A ch m ρ c t _ ((P0_iff ch t).2 ht)]
  unfold out0_A_6
  rw [View.read_writes_junk_eq_canon]
  delta kernelRun0_A
  dsimp only
  refine (tile _ _ _ _ _ _ _ _ _ _ _ _ y).trans ?_
  unfold oT rowOut hmx rowMx
  have eh : hT (iblk ch m ρ c (0 : Fin 7) t) (iblk ch m ρ c (1 : Fin 7) t) (iblk ch m ρ c (2 : Fin 7) t) (iblk ch m ρ c (3 : Fin 7) t) (y 0)
      = rowH (aXs m c) (aSc m c) (aWgu m c) (aSgu m c) (gidF ch ⟨t.val, ht200 ch t⟩)
          ⟨t.val * 256 + (y 0).val, by have := ht200 ch t; have := (y 0).isLt; change (y 0).val < 256 at this; omega⟩ := by
    funext k
    unfold hT rowH
    exact hOf_congr (fun x => blk0 ch m ρ c t ht (y 0) x) (blk1 ch m ρ c t ht (y 0)) (fun x => blk2 ch m ρ c t _ x) (blk3 ch m ρ c t _)
      (fun x => blk2 ch m ρ c t _ x) (blk3 ch m ρ c t _)
  rw [eh]
  exact oOf_congr (fun x => rfl) rfl (fun x => blk4 ch m ρ c t (y 1) x) (blk5 ch m ρ c t (y 1))

/-- From the last computing point on the buffer keeps what it held. -/
theorem traj_B (k : ℕ) (hk : ntn ch - 1 + k < (cfgA ch).N) :
    (traj0 ch m ρ c (ntn ch - 1 + k) hk).1 = (traj0 ch m ρ c (ntn ch - 1) (lt_of_le_of_lt (Nat.le_add_right _ _) hk)).1 := by
  induction k with
  | zero => rfl
  | succ k ih =>
    have h := hcarry0_6 ch m ρ c ⟨ntn ch - 1 + (k + 1), hk⟩ (by show ntn ch - 1 + (k + 1) ≠ 0; omega)
    have h1 := ntn_pos ch
    have hn : ¬P0_0 ch ⟨ntn ch - 1 + (k + 1), hk⟩ := by rw [P0_iff]; show ¬ (ntn ch - 1 + (k + 1) < ntn ch); omega
    obtain ⟨hi, hf, -⟩ := sched0_B ch _ hn
    exact (h hi hf).trans (ih (Nat.lt_of_succ_lt hk))

/-- What a point that writes its block back writes: the rows expected there. -/
theorem flushed_eq : (dats ch m ρ 0 c).flushed (6 : Fin 7) t = (((cfgA ch).win (6 : Fin 7)).blk t).view.read (Elt Ideal) (expect ch m c) := by
  have h1 := ntn_pos ch
  have hlt : min t.val (ntn ch - 1) < (cfgA ch).N := lt_of_le_of_lt (min_le_left _ _) t.isLt
  have e : (traj0 ch m ρ c t.val t.isLt).1 = (traj0 ch m ρ c (min t.val (ntn ch - 1)) hlt).1 := by
    rcases le_total t.val (ntn ch - 1) with h | h
    · congr 2; exact (min_eq_left h).symm
    · obtain ⟨k, hk⟩ := Nat.exists_eq_add_of_le h
      have hb := traj_B ch m ρ c k (hk ▸ t.isLt)
      have e1 : min t.val (ntn ch - 1) = ntn ch - 1 := min_eq_right h
      refine Eq.trans ?_ (hb.trans ?_)
      · congr 2
      · congr 2; exact e1.symm
  funext y
  show (traj0 ch m ρ c t.val t.isLt).1 y = expect ch m c ((((cfgA ch).win (6 : Fin 7)).rect t).emb y)
  have h0 := emb6 ch t y 0
  have h1' := emb6 ch t y 1
  rw [e]
  have hy0 : (y 0).val < 256 := (y 0).isLt
  have h200 := ht200 ch t
  refine (traj_A ch m ρ c ⟨min t.val (ntn ch - 1), hlt⟩ (by show min t.val (ntn ch - 1) < ntn ch; omega) y).trans ?_
  have e0 : (((cfgA ch).win (6 : Fin 7)).rect t).emb y 0 = (⟨min t.val (ntn ch - 1) * 256 + (y 0).val, by omega⟩ : Fin 51200) := Fin.ext h0
  have e1 : (((cfgA ch).win (6 : Fin 7)).rect t).emb y 1 = (⟨(y 1).val, (y 1).isLt⟩ : Fin 2048) := Fin.ext h1'
  refine Eq.trans ?_ (congrArg₂ (expectAt ch m c) e0 e1).symm
  unfold expectAt
  have ed : ∀ a b : ℕ, b < 256 → (a * 256 + b) / 256 = a := by omega
  have eg : (⟨(min t.val (ntn ch - 1) * 256 + (y 0).val) / 256, by omega⟩ : Fin 200) = ⟨min t.val (ntn ch - 1), by omega⟩ := Fin.ext (ed _ _ hy0)
  simp only [eg]
  rfl

/-- THE RESULT ARRAY after the run, at a row of a computed tile. -/
theorem array (R : Fin 51200) (j : Fin 2048) (hR : R.val / 256 < ntn ch) :
    (dats ch m ρ 0 c).arrAt (6 : Fin 7) (cfgA ch).N (ix2 R j)
      = rowOut (aXs m c) (aSc m c) (aWgu m c) (aSgu m c) (aWd m c) (aSd m c) (gidF ch ⟨R.val / 256, by omega⟩) R j := by
  have hN : (cfgA ch).N = 200 := N_0
  let t₀ : Fin (cfgA ch).N := ⟨R.val / 256, lt_of_lt_of_eq (by omega) hN.symm⟩
  obtain ⟨t, -, hf, hix⟩ := Pipeline.Window.exists_flush_same_index ((cfgA ch).win (6 : Fin 7)) rfl t₀
  have hi : (ix2 R j : S51200x2048.Idx) = (((cfgA ch).win (6 : Fin 7)).rect t).emb (ix2 (⟨R.val % 256, by omega⟩ : Fin 256) j : S256x2048.Idx) := by
    refine funext fun a => Fin.ext ?_
    refine Eq.trans ?_ (Pipeline.Window.rect_emb_val ((cfgA ch).win (6 : Fin 7)) t (ix2 (⟨R.val % 256, by omega⟩ : Fin 256) j : S256x2048.Idx) a).symm
    rw [hix, index6]
    match a with
    | ⟨0, _⟩ =>
      show R.val = min (R.val / 256) (ntn ch - 1) * 256 + R.val % 256
      rw [min_eq_left (by omega)]; omega
    | ⟨1, _⟩ => show j.val = 0 * 2048 + j.val; omega
  have hmem : (ix2 R j : S51200x2048.Idx) ∈ (((cfgA ch).win (6 : Fin 7)).blk t).view.set := by
    rw [hi]; exact (((cfgA ch).win (6 : Fin 7)).blk t).view.emb_mem_set _
  exact (dats ch m ρ 0 c).arrAt_apply_of_mem (6 : Fin 7) (expect ch m c) (fun t _ => flushed_eq ch m ρ c t) _ t _ t.isLt hf hmem

end Cert.KernelIdeal.Tab
end
-- ==== Proof.RefIdeal.lean ====
/- The reference's result over the extended reals, element by element: the row of the row's expert. -/
module

public import proofs.«01_k».proof.Proof.Gen.ReferenceIdeal.Frame
public import proofs.«01_k».proof.Proof.Rows
public import Idealize.ShloMosaic.Lib.Pointwise
public import Idealize.ShloMosaic.Lib.Pipeline.Value

@[expose] public section

set_option maxRecDepth 16384
set_option Elab.async false

noncomputable section

namespace Cert.ReferenceIdeal.Val

open Cert.ReferenceIdeal Cert.ReferenceIdeal.Gen
open Idealize.SL Idealize.SL.Sem Idealize.ShloMosaic
open Cert.Q

/-- The greatest magnitudes of the rows. -/
def amx (h : FVec Ideal S51200x4096 .f32) : FVec Ideal S51200x1 .f32 :=
  shapeCast S51200x1 (multiReduction (F := Ideal) .maximumf [1] S51200 (absf h) 0xFF800000#32 reduces_S51200x4096_S51200 (.inl rfl) rfl) shapeCasts_S51200_S51200x1

theorem amx_at (h : FVec Ideal S51200x4096 .f32) (R : Fin 51200) :
    amx h (ix2 R 0) = Finset.fold max (Ideal.ofBits FTy.f32 4286578688#32) (fun k : Fin 4096 => FloatOps.absf (F := Ideal) (φ := .f32) (h (ix2 R k))) Finset.univ := by
  pointwise [amx]

theorem grid_at (x : Fin 253) : k0_pay5 (F := Ideal) (ix2 0 x) = rP x := by
  unfold rP
  pointwise [k0_pay5]

/-- The reference's form of an element, from the hidden row and its greatest magnitude. -/
def oR (h : Fin 4096 → EReal) (a : EReal) (wd : Fin 4096 → EReal) (sd : EReal) : EReal :=
  (∑ x, min (Ideal.ofBits FTy.f32 1138753536#32) (max (Ideal.ofBits FTy.f32 3286237184#32) (Ideal.div (h x) (rS a))) * wd x) * rS a * sd

/-- One expert's turn as vectors, from the hidden layer `v25`, its greatest magnitudes `v28` and the powers of two `v33`. -/
def genv (n : BitVec 32) (v3 : IVec S51200x1 32) (v4 : FVec Ideal S51200x2048 .f32) (v25 : FVec Ideal S51200x4096 .f32) (v28 : FVec Ideal S51200x1 .f32) (v33 : FVec Ideal S1x253 .f32)
    (v56 : Vec Ideal S1x2048x4096 .fp8e4m3) (v61 : Vec Ideal S1x1x2048 .f32) : FVec Ideal S51200x2048 .f32 :=
  have v35 : FVec Ideal S51200x1 .f32 := mulf v28 (broadcast S51200x1 (Scalar.ofBits .f32 0x3B124925#32))
  have v36 : FVec Ideal S51200x253 .f32 := broadcastTo S51200x253 v33 broadcasts_S1x253_S51200x253
  have v37 : FVec Ideal S51200x253 .f32 := broadcastTo S51200x253 v35 broadcasts_S51200x1_S51200x253
  have v38 : IVec S51200x253 1 := cmpf .ogt v36 v37
  have cst_21 : Ideal .f32 := Scalar.ofBits .f32 0x7E800000#32
  have v39 : FVec Ideal S1x253 .f32 := shapeCast S1x253 v33 shapeCasts_S1x253_S1x253
  have v40 : FVec Ideal S51200x253 .f32 := broadcastTo S51200x253 v39 broadcasts_S1x253_S51200x253
  have v41 : FVec Ideal S51200x253 .f32 := broadcast S51200x253 cst_21
  have v42 : FVec Ideal S51200x253 .f32 := select v38 v40 v41
  have v43 : FVec Ideal S51200 .f32 := multiReduction .minimumf [1] S51200 v42 0x7F800000#32 reduces_S51200x253_S51200 (.inl rfl) rfl
  have v44 : FVec Ideal S51200x1 .f32 := shapeCast S51200x1 v43 shapeCasts_S51200_S51200x1
  have cst_23 : Ideal .f32 := Scalar.ofBits .f32 0x00000000#32
  have v45 : FVec Ideal S51200x1 .f32 := broadcast S51200x1 cst_23
  have v46 : IVec S51200x1 1 := cmpf .oeq v28 v45
  have cst_24 : Ideal .f32 := Scalar.ofBits .f32 0x3F800000#32
  have v47 : FVec Ideal S51200x1 .f32 := broadcast S51200x1 cst_24
  have v48 : FVec Ideal S51200x1 .f32 := select v46 v47 v44
  have v49 : FVec Ideal S51200x4096 .f32 := broadcastTo S51200x4096 v48 broadcasts_S51200x1_S51200x4096
  have v50 : FVec Ideal S51200x4096 .f32 := divf v25 v49
  have cst_25 : Ideal .f32 := Scalar.ofBits .f32 0xC3E00000#32
  have cst_26 : Ideal .f32 := Scalar.ofBits .f32 0x43E00000#32
  have v51 : FVec Ideal S51200x4096 .f32 := broadcast S51200x4096 cst_25
  have v52 : FVec Ideal S51200x4096 .f32 := maximumf v51 v50
  have v53 : FVec Ideal S51200x4096 .f32 := broadcast S51200x4096 cst_26
  have v54 : FVec Ideal S51200x4096 .f32 := minimumf v53 v52
  have v55 : FVec Ideal S51200x4096 .fp8e4m3 := truncf .fp8e4m3 v54 bitsLt_fp8e4m3_f32
  have v57 : FVec Ideal S2048x4096 .fp8e4m3 := shapeCast S2048x4096 v56 shapeCasts_S1x2048x4096_S2048x4096
  have cst_30 : FVec Ideal S51200x2048 .f32 := constant S51200x2048 .f32 0x00000000#32
  have v58 : FVec Ideal S51200x2048 .f32 := matmul dot_S51200x4096_S2048x4096_S51200x2048_1_1_0_0_n_n none v55 v57 cst_30
  have v59 : FVec Ideal S51200x2048 .f32 := broadcastTo S51200x2048 v48 broadcasts_S51200x1_S51200x2048
  have v60 : FVec Ideal S51200x2048 .f32 := mulf v58 v59
  have v62 : FVec Ideal S1x2048 .f32 := shapeCast S1x2048 v61 shapeCasts_S1x1x2048_S1x2048
  have v63 : FVec Ideal S51200x2048 .f32 := broadcastTo S51200x2048 v62 broadcasts_S1x2048_S51200x2048
  have v64 : FVec Ideal S51200x2048 .f32 := mulf v60 v63
  have v65 : IVec S51200x1 32 := broadcast S51200x1 n
  have v66 : IVec S51200x1 1 := cmpi .eq v3 v65
  have v67 : IVec S51200x1 1 := shapeCast S51200x1 v66 shapeCasts_S51200x1_S51200x1
  have v68 : IVec S51200x2048 1 := broadcastTo S51200x2048 v67 broadcasts_S51200x1_S51200x2048
  have v69 : FVec Ideal S51200x2048 .f32 := select v68 v64 v4
  v69

theorem genv_at (n : BitVec 32) (v3 : IVec S51200x1 32) (v4 : FVec Ideal S51200x2048 .f32) (v25 : FVec Ideal S51200x4096 .f32) (v28 : FVec Ideal S51200x1 .f32)
    (v56 : Vec Ideal S1x2048x4096 .fp8e4m3) (v61 : Vec Ideal S1x1x2048 .f32) (R : Fin 51200) (j : Fin 2048) :
    genv n v3 v4 v25 v28 k0_pay5 v56 v61 (ix2 R j)
      = Scalar.select (IntOp.cmpi .eq (v3 (ix2 R 0)) n) (oR (fun x => v25 (ix2 R x)) (v28 (ix2 R 0)) (fun x => v56 (ix3 0 j x)) (v61 (ix3 0 0 j))) (v4 (ix2 R j)) := by
  unfold oR rS rP
  pointwise [genv, k0_pay5]

theorem oR_eq (h : Fin 4096 → EReal) (a : EReal) (wd : Fin 4096 → EReal) (sd : EReal) : oR h a wd sd = oOf h a wd sd := (oOf_eq h a wd sd).symm

/-- Expert 4's hidden layer, from its projections. -/
def hid24 (v273 v276 v277 : FVec Ideal S51200x4096 .f32) (v279 : Vec Ideal S1x1x4096 .f32) : FVec Ideal S51200x4096 .f32 :=
  mulf (mulf v273 (logistic v273)) (mulf (mulf v276 v277) (broadcastTo S51200x4096 (shapeCast S1x4096 v279 shapeCasts_S1x1x4096_S1x4096) broadcasts_S1x4096_S51200x4096))

variable (v3 : IVec S51200x1 32) (v : FVec Ideal S51200x2048 .f32) (v0 : Vec Ideal S51200x2048 .fp8e4m3) (v1 : Vec Ideal S51200x1 .f32)
  (w : FVec Ideal S51200x4096 .f32) (g u : Vec Ideal S1x4096x2048 .fp8e4m3) (sg su : Vec Ideal S1x1x4096 .f32)
  (d : Vec Ideal S1x2048x4096 .fp8e4m3) (sd : Vec Ideal S1x1x2048 .f32) (R : Fin 51200) (j : Fin 2048)

/-! Each expert's turn: its rows take its result, the others keep theirs. -/

theorem vec0 : k0_pay7 v3 v (k0_pay3 v0 v1 g sg u su) (k0_pay4 v0 v1 g sg u su) (k0_pay5 (F := Ideal)) (k0_pay6 v0 v1 g sg u su) d sd
      = genv 0#32 v3 v (k0_pay3 v0 v1 g sg u su) (amx (k0_pay3 v0 v1 g sg u su)) k0_pay5 d sd := rfl

theorem vec1 : k0_pay13 v3 v (k0_pay10 v0 v1 w sg u su) (k0_pay11 v0 v1 w sg u su) (k0_pay12 (F := Ideal)) d sd
      = genv 1#32 v3 v (k0_pay9 v0 v1 w sg u su) (amx (k0_pay9 v0 v1 w sg u su)) k0_pay5 d sd := rfl

theorem vec2 : k0_pay16 v3 v (k0_pay14 v0 v1 g sg u su) (k0_pay15 v0 v1 g sg u su) d sd
      = genv 2#32 v3 v (k0_pay14 v0 v1 g sg u su) (amx (k0_pay14 v0 v1 g sg u su)) k0_pay5 d sd := rfl

theorem vec3 : k0_pay20 v3 v (k0_pay17 v0 v1 g sg u su) (k0_pay18 v0 v1 g sg u su) (k0_pay19 v0 v1 g sg u su) (Scalar.ofBits (F := Ideal) .f32 0x00000000#32) d sd
      = genv 3#32 v3 v (k0_pay17 v0 v1 g sg u su) (amx (k0_pay17 v0 v1 g sg u su)) k0_pay5 d sd := rfl

theorem vec4 : k0_pay25 v3 v (k0_pay24 (k0_pay21 v0 v1 g sg) (k0_pay22 v0 u) (k0_pay23 v1) su d) sd
      = genv 4#32 v3 v (hid24 (k0_pay21 v0 v1 g sg) (k0_pay22 v0 u) (k0_pay23 v1) su) (amx (hid24 (k0_pay21 v0 v1 g sg) (k0_pay22 v0 u) (k0_pay23 v1) su)) k0_pay5 d sd := rfl

theorem vec5 : k0_pay30 v3 v (k0_pay26 v0 v1 g sg u su) (k0_pay27 v0 v1 g sg u su) (k0_pay28 (F := Ideal)) (k0_pay29 v0 v1 g sg u su) d sd
      = genv 5#32 v3 v (k0_pay26 v0 v1 g sg u su) (amx (k0_pay26 v0 v1 g sg u su)) k0_pay5 d sd := rfl

theorem vec6 : k0_pay36 v3 v (k0_pay33 v0 v1 w sg u su) (k0_pay34 v0 v1 w sg u su) (k0_pay35 (F := Ideal)) d sd
      = genv 6#32 v3 v (k0_pay32 v0 v1 w sg u su) (amx (k0_pay32 v0 v1 w sg u su)) k0_pay5 d sd := rfl

theorem vec7 : k0_pay39 v3 v (k0_pay37 v0 v1 g sg u su) (k0_pay38 v0 v1 g sg u su) d sd
      = genv 7#32 v3 v (k0_pay37 v0 v1 g sg u su) (amx (k0_pay37 v0 v1 g sg u su)) k0_pay5 d sd := rfl

/-! ## On the argument arrays -/

variable (x0 : S51200x1.Idx → Elt Ideal .i32) (x1 : S51200x2048.Idx → Elt Ideal .fp8e4m3) (x2 : S51200x1.Idx → Elt Ideal .f32)
  (x3 : S8x8192x2048.Idx → Elt Ideal .fp8e4m3) (x4 : S8x1x8192.Idx → Elt Ideal .f32) (x5 : S8x2048x4096.Idx → Elt Ideal .fp8e4m3)
  (x6 : S8x1x2048.Idx → Elt Ideal .f32)

/-- Expert 0's hidden layer. -/
theorem hid0 (k : Fin 4096) :
    (k0_pay3 (View.ld x1 r0_0) (View.ld x2 r0_1) (View.ld x3 r0_2) (View.ld x4 r0_3) (View.ld x3 r0_4) (View.ld x4 r0_5)) (ix2 R k) = rowH x1 x2 x3 x4 0 R k := by
  unfold rowH hOf
  pointwise [k0_pay3]

theorem sel0 (v : FVec Ideal S51200x2048 .f32) : genv 0#32 v3 v (k0_pay3 (View.ld x1 r0_0) (View.ld x2 r0_1) (View.ld x3 r0_2) (View.ld x4 r0_3) (View.ld x3 r0_4) (View.ld x4 r0_5)) (amx (k0_pay3 (View.ld x1 r0_0) (View.ld x2 r0_1) (View.ld x3 r0_2) (View.ld x4 r0_3) (View.ld x3 r0_4) (View.ld x4 r0_5))) k0_pay5 (View.ld x5 r0_6) (View.ld x6 r0_7) (ix2 R j)
    = Scalar.select (IntOp.cmpi .eq (v3 (ix2 R 0)) 0#32) (rowOut x1 x2 x3 x4 x5 x6 0 R j) (v (ix2 R j)) := by
  rw [genv_at, amx_at]
  simp only [hid0]
  rw [oR_eq]
  unfold rowOut rowMx
  refine congrArg₂ (Scalar.select _) (oOf_congr (fun _ => rfl) rfl (fun x => ?_) ?_) rfl
  · pointwise []
  · pointwise []

/-- Expert 1's hidden layer. -/
theorem hid1 (k : Fin 4096) :
    (k0_pay9 (View.ld x1 r0_0) (View.ld x2 r0_1) (k0_pay8 (View.ld x1 r0_0) (View.ld x2 r0_1) (View.ld x3 r0_8)) (View.ld x4 r0_9) (View.ld x3 r0_10) (View.ld x4 r0_11)) (ix2 R k) = rowH x1 x2 x3 x4 1 R k := by
  unfold rowH hOf
  pointwise [k0_pay9, k0_pay8]

theorem sel1 (v : FVec Ideal S51200x2048 .f32) : genv 1#32 v3 v (k0_pay9 (View.ld x1 r0_0) (View.ld x2 r0_1) (k0_pay8 (View.ld x1 r0_0) (View.ld x2 r0_1) (View.ld x3 r0_8)) (View.ld x4 r0_9) (View.ld x3 r0_10) (View.ld x4 r0_11)) (amx (k0_pay9 (View.ld x1 r0_0) (View.ld x2 r0_1) (k0_pay8 (View.ld x1 r0_0) (View.ld x2 r0_1) (View.ld x3 r0_8)) (View.ld x4 r0_9) (View.ld x3 r0_10) (View.ld x4 r0_11))) k0_pay5 (View.ld x5 r0_12) (View.ld x6 r0_13) (ix2 R j)
    = Scalar.select (IntOp.cmpi .eq (v3 (ix2 R 0)) 1#32) (rowOut x1 x2 x3 x4 x5 x6 1 R j) (v (ix2 R j)) := by
  rw [genv_at, amx_at]
  simp only [hid1]
  rw [oR_eq]
  unfold rowOut rowMx
  refine congrArg₂ (Scalar.select _) (oOf_congr (fun _ => rfl) rfl (fun x => ?_) ?_) rfl
  · pointwise []
  · pointwise []

/-- Expert 2's hidden layer. -/
theorem hid2 (k : Fin 4096) :
    (k0_pay14 (View.ld x1 r0_0) (View.ld x2 r0_1) (View.ld x3 r0_14) (View.ld x4 r0_15) (View.ld x3 r0_16) (View.ld x4 r0_17)) (ix2 R k) = rowH x1 x2 x3 x4 2 R k := by
  unfold rowH hOf
  pointwise [k0_pay14]

theorem sel2 (v : FVec Ideal S51200x2048 .f32) : genv 2#32 v3 v (k0_pay14 (View.ld x1 r0_0) (View.ld x2 r0_1) (View.ld x3 r0_14) (View.ld x4 r0_15) (View.ld x3 r0_16) (View.ld x4 r0_17)) (amx (k0_pay14 (View.ld x1 r0_0) (View.ld x2 r0_1) (View.ld x3 r0_14) (View.ld x4 r0_15) (View.ld x3 r0_16) (View.ld x4 r0_17))) k0_pay5 (View.ld x5 r0_18) (View.ld x6 r0_19) (ix2 R j)
    = Scalar.select (IntOp.cmpi .eq (v3 (ix2 R 0)) 2#32) (rowOut x1 x2 x3 x4 x5 x6 2 R j) (v (ix2 R j)) := by
  rw [genv_at, amx_at]
  simp only [hid2]
  rw [oR_eq]
  unfold rowOut rowMx
  refine congrArg₂ (Scalar.select _) (oOf_congr (fun _ => rfl) rfl (fun x => ?_) ?_) rfl
  · pointwise []
  · pointwise []

/-- Expert 3's hidden layer. -/
theorem hid3 (k : Fin 4096) :
    (k0_pay17 (View.ld x1 r0_0) (View.ld x2 r0_1) (View.ld x3 r0_20) (View.ld x4 r0_21) (View.ld x3 r0_22) (View.ld x4 r0_23)) (ix2 R k) = rowH x1 x2 x3 x4 3 R k := by
  unfold rowH hOf
  pointwise [k0_pay17]

theorem sel3 (v : FVec Ideal S51200x2048 .f32) : genv 3#32 v3 v (k0_pay17 (View.ld x1 r0_0) (View.ld x2 r0_1) (View.ld x3 r0_20) (View.ld x4 r0_21) (View.ld x3 r0_22) (View.ld x4 r0_23)) (amx (k0_pay17 (View.ld x1 r0_0) (View.ld x2 r0_1) (View.ld x3 r0_20) (View.ld x4 r0_21) (View.ld x3 r0_22) (View.ld x4 r0_23))) k0_pay5 (View.ld x5 r0_24) (View.ld x6 r0_25) (ix2 R j)
    = Scalar.select (IntOp.cmpi .eq (v3 (ix2 R 0)) 3#32) (rowOut x1 x2 x3 x4 x5 x6 3 R j) (v (ix2 R j)) := by
  rw [genv_at, amx_at]
  simp only [hid3]
  rw [oR_eq]
  unfold rowOut rowMx
  refine congrArg₂ (Scalar.select _) (oOf_congr (fun _ => rfl) rfl (fun x => ?_) ?_) rfl
  · pointwise []
  · pointwise []

/-- Expert 4's hidden layer. -/
theorem hid4 (k : Fin 4096) :
    (hid24 (k0_pay21 (View.ld x1 r0_0) (View.ld x2 r0_1) (View.ld x3 r0_26) (View.ld x4 r0_27)) (k0_pay22 (View.ld x1 r0_0) (View.ld x3 r0_28)) (k0_pay23 (View.ld x2 r0_1)) (View.ld x4 r0_29)) (ix2 R k) = rowH x1 x2 x3 x4 4 R k := by
  unfold rowH hOf
  pointwise [hid24, k0_pay21, k0_pay22, k0_pay23]

theorem sel4 (v : FVec Ideal S51200x2048 .f32) : genv 4#32 v3 v (hid24 (k0_pay21 (View.ld x1 r0_0) (View.ld x2 r0_1) (View.ld x3 r0_26) (View.ld x4 r0_27)) (k0_pay22 (View.ld x1 r0_0) (View.ld x3 r0_28)) (k0_pay23 (View.ld x2 r0_1)) (View.ld x4 r0_29)) (amx (hid24 (k0_pay21 (View.ld x1 r0_0) (View.ld x2 r0_1) (View.ld x3 r0_26) (View.ld x4 r0_27)) (k0_pay22 (View.ld x1 r0_0) (View.ld x3 r0_28)) (k0_pay23 (View.ld x2 r0_1)) (View.ld x4 r0_29))) k0_pay5 (View.ld x5 r0_30) (View.ld x6 r0_31) (ix2 R j)
    = Scalar.select (IntOp.cmpi .eq (v3 (ix2 R 0)) 4#32) (rowOut x1 x2 x3 x4 x5 x6 4 R j) (v (ix2 R j)) := by
  rw [genv_at, amx_at]
  simp only [hid4]
  rw [oR_eq]
  unfold rowOut rowMx
  refine congrArg₂ (Scalar.select _) (oOf_congr (fun _ => rfl) rfl (fun x => ?_) ?_) rfl
  · pointwise []
  · pointwise []

/-- Expert 5's hidden layer. -/
theorem hid5 (k : Fin 4096) :
    (k0_pay26 (View.ld x1 r0_0) (View.ld x2 r0_1) (View.ld x3 r0_32) (View.ld x4 r0_33) (View.ld x3 r0_34) (View.ld x4 r0_35)) (ix2 R k) = rowH x1 x2 x3 x4 5 R k := by
  unfold rowH hOf
  pointwise [k0_pay26]

theorem sel5 (v : FVec Ideal S51200x2048 .f32) : genv 5#32 v3 v (k0_pay26 (View.ld x1 r0_0) (View.ld x2 r0_1) (View.ld x3 r0_32) (View.ld x4 r0_33) (View.ld x3 r0_34) (View.ld x4 r0_35)) (amx (k0_pay26 (View.ld x1 r0_0) (View.ld x2 r0_1) (View.ld x3 r0_32) (View.ld x4 r0_33) (View.ld x3 r0_34) (View.ld x4 r0_35))) k0_pay5 (View.ld x5 r0_36) (View.ld x6 r0_37) (ix2 R j)
    = Scalar.select (IntOp.cmpi .eq (v3 (ix2 R 0)) 5#32) (rowOut x1 x2 x3 x4 x5 x6 5 R j) (v (ix2 R j)) := by
  rw [genv_at, amx_at]
  simp only [hid5]
  rw [oR_eq]
  unfold rowOut rowMx
  refine congrArg₂ (Scalar.select _) (oOf_congr (fun _ => rfl) rfl (fun x => ?_) ?_) rfl
  · pointwise []
  · pointwise []

/-- Expert 6's hidden layer. -/
theorem hid6 (k : Fin 4096) :
    (k0_pay32 (View.ld x1 r0_0) (View.ld x2 r0_1) (k0_pay31 (View.ld x1 r0_0) (View.ld x2 r0_1) (View.ld x3 r0_38)) (View.ld x4 r0_39) (View.ld x3 r0_40) (View.ld x4 r0_41)) (ix2 R k) = rowH x1 x2 x3 x4 6 R k := by
  unfold rowH hOf
  pointwise [k0_pay32, k0_pay31]

theorem sel6 (v : FVec Ideal S51200x2048 .f32) : genv 6#32 v3 v (k0_pay32 (View.ld x1 r0_0) (View.ld x2 r0_1) (k0_pay31 (View.ld x1 r0_0) (View.ld x2 r0_1) (View.ld x3 r0_38)) (View.ld x4 r0_39) (View.ld x3 r0_40) (View.ld x4 r0_41)) (amx (k0_pay32 (View.ld x1 r0_0) (View.ld x2 r0_1) (k0_pay31 (View.ld x1 r0_0) (View.ld x2 r0_1) (View.ld x3 r0_38)) (View.ld x4 r0_39) (View.ld x3 r0_40) (View.ld x4 r0_41))) k0_pay5 (View.ld x5 r0_42) (View.ld x6 r0_43) (ix2 R j)
    = Scalar.select (IntOp.cmpi .eq (v3 (ix2 R 0)) 6#32) (rowOut x1 x2 x3 x4 x5 x6 6 R j) (v (ix2 R j)) := by
  rw [genv_at, amx_at]
  simp only [hid6]
  rw [oR_eq]
  unfold rowOut rowMx
  refine congrArg₂ (Scalar.select _) (oOf_congr (fun _ => rfl) rfl (fun x => ?_) ?_) rfl
  · pointwise []
  · pointwise []

/-- Expert 7's hidden layer. -/
theorem hid7 (k : Fin 4096) :
    (k0_pay37 (View.ld x1 r0_0) (View.ld x2 r0_1) (View.ld x3 r0_44) (View.ld x4 r0_45) (View.ld x3 r0_46) (View.ld x4 r0_47)) (ix2 R k) = rowH x1 x2 x3 x4 7 R k := by
  unfold rowH hOf
  pointwise [k0_pay37]

theorem sel7 (v : FVec Ideal S51200x2048 .f32) : genv 7#32 v3 v (k0_pay37 (View.ld x1 r0_0) (View.ld x2 r0_1) (View.ld x3 r0_44) (View.ld x4 r0_45) (View.ld x3 r0_46) (View.ld x4 r0_47)) (amx (k0_pay37 (View.ld x1 r0_0) (View.ld x2 r0_1) (View.ld x3 r0_44) (View.ld x4 r0_45) (View.ld x3 r0_46) (View.ld x4 r0_47))) k0_pay5 (View.ld x5 r0_48) (View.ld x6 r0_49) (ix2 R j)
    = Scalar.select (IntOp.cmpi .eq (v3 (ix2 R 0)) 7#32) (rowOut x1 x2 x3 x4 x5 x6 7 R j) (v (ix2 R j)) := by
  rw [genv_at, amx_at]
  simp only [hid7]
  rw [oR_eq]
  unfold rowOut rowMx
  refine congrArg₂ (Scalar.select _) (oOf_congr (fun _ => rfl) rfl (fun x => ?_) ?_) rfl
  · pointwise []
  · pointwise []

theorem select_of_ne {α : Type} {a n : BitVec 32} (h : a ≠ n) (x y : α) : Scalar.select (IntOp.cmpi .eq a n) x y = y := by
  have hb : (a == n) = false := beq_eq_false_iff_ne.2 h
  simp [Scalar.select, IntOp.cmpi, hb]

theorem select_of_eq {α : Type} (a : BitVec 32) (x y : α) : Scalar.select (IntOp.cmpi .eq a a) x y = x := by
  simp [Scalar.select, IntOp.cmpi]

/-- The reference's result at a row whose expert is `e`. -/
theorem out_at (e : Fin 8) (he : x0 (ix2 R 0) = BitVec.ofNat 32 e) :
    out0_7 x0 x1 x2 x3 x4 x5 x6 (ix2 R j) = rowOut x1 x2 x3 x4 x5 x6 e R j := by
  have h3 : k0_pay40 (F := Ideal) x0 x1 x2 x3 x4 x5 x6 (ix2 R 0) = x0 (ix2 R 0) := by
    pointwise [k0_pay40, k0_pay1]
  unfold out0_7
  rw [View.canon_unit_zero (by decide)]
  rw [vec7, vec6, vec5, vec4, vec3, vec2, vec1, vec0]
  unfold k0_pay41 k0_pay42
  rw [sel7, sel6, sel5, sel4, sel3, sel2, sel1, sel0, h3, he]
  match e with
  | ⟨0, _⟩ => simp (discharger := decide) only [select_of_ne]; exact select_of_eq _ _ _
  | ⟨1, _⟩ => simp (discharger := decide) only [select_of_ne]; exact select_of_eq _ _ _
  | ⟨2, _⟩ => simp (discharger := decide) only [select_of_ne]; exact select_of_eq _ _ _
  | ⟨3, _⟩ => simp (discharger := decide) only [select_of_ne]; exact select_of_eq _ _ _
  | ⟨4, _⟩ => simp (discharger := decide) only [select_of_ne]; exact select_of_eq _ _ _
  | ⟨5, _⟩ => simp (discharger := decide) only [select_of_ne]; exact select_of_eq _ _ _
  | ⟨6, _⟩ => simp (discharger := decide) only [select_of_ne]; exact select_of_eq _ _ _
  | ⟨7, _⟩ => exact select_of_eq _ _ _

end Cert.ReferenceIdeal.Val
end
-- ==== Proof.RefRunIdeal.lean ====
/- The reference's run over the extended reals: its result array at every row, the arguments unchanged. -/
module

public import proofs.«01_k».proof.Proof.RefIdeal

@[expose] public section

set_option maxRecDepth 16384
set_option Elab.async false

noncomputable section

namespace Cert.ReferenceIdeal.Val

open Cert.ReferenceIdeal Cert.ReferenceIdeal.Gen
open Idealize.SL Idealize.SL.Sem Idealize.ShloMosaic
open Idealize.ShloMosaic.TcCoe
open Idealize.ShloMosaic.Pipeline (Dat Cfg Window)
open Cert.Q

variable (m : (ℓ : Loc nD τ sig) → Buf (Elt Ideal) ℓ) (ρ : Dev nD → PrngReg) (c : Dev nD)

/-- The experts of the rows, as the host lays them out. -/
theorem row_expert (R : Fin 51200) :
    V m c main_v2 (ix2 R 0 : S51200x1.Idx) = m ((c : Thread nD τ).loc main_arg0) (ix1 (⟨R.val / 256, by omega⟩ : Fin 200)) := by
  have h : V m c main_v2 = shapeCast S51200x1 (broadcastInDim S200x256 ![0, 1] bcast_S200x1_S200x256_0_1 (broadcastInDim S200x1 ![0] bcast_S200_S200x1_0 (m ((c : Thread nD τ).loc main_arg0) : S200.Idx → Elt Ideal .i32))) shapeCasts_S200x256_S51200x1 := by
    unfold_abbrev_sides
    after_results
    rfl
  rw [h]
  pointwise []

variable (t : Fin cfg0.N)

theorem index_zero (w : Fin cfg0.W) (a) : (cfg0.win w).index t a = 0 := by
  have h : ∀ t : Fin cfg0.N, ∀ w : Fin cfg0.W, ∀ a, (cfg0.win w).index t a = 0 := by decide +kernel
  exact h t w a

/-! Each window is its whole array. -/

theorem blk0 : (iblk m c 0 t : S51200x1.Idx → _) = V m c main_v2 := funext fun y =>
  congrArg (V m c main_v2) (funext fun a => Fin.ext (Pipeline.Window.rect_emb_val_of_index_zero (cfg0.win 0) t a (index_zero t 0 a) y))

theorem blk1 : (iblk m c 1 t : S51200x2048.Idx → _) = V m c main_arg2 := funext fun y =>
  congrArg (V m c main_arg2) (funext fun a => Fin.ext (Pipeline.Window.rect_emb_val_of_index_zero (cfg0.win 1) t a (index_zero t 1 a) y))

theorem blk2 : (iblk m c 2 t : S51200x1.Idx → _) = V m c main_arg3 := funext fun y =>
  congrArg (V m c main_arg3) (funext fun a => Fin.ext (Pipeline.Window.rect_emb_val_of_index_zero (cfg0.win 2) t a (index_zero t 2 a) y))

theorem blk3 : (iblk m c 3 t : S8x8192x2048.Idx → _) = V m c main_arg4 := funext fun y =>
  congrArg (V m c main_arg4) (funext fun a => Fin.ext (Pipeline.Window.rect_emb_val_of_index_zero (cfg0.win 3) t a (index_zero t 3 a) y))

theorem blk4 : (iblk m c 4 t : S8x1x8192.Idx → _) = V m c main_arg5 := funext fun y =>
  congrArg (V m c main_arg5) (funext fun a => Fin.ext (Pipeline.Window.rect_emb_val_of_index_zero (cfg0.win 4) t a (index_zero t 4 a) y))

theorem blk5 : (iblk m c 5 t : S8x2048x4096.Idx → _) = V m c main_arg6 := funext fun y =>
  congrArg (V m c main_arg6) (funext fun a => Fin.ext (Pipeline.Window.rect_emb_val_of_index_zero (cfg0.win 5) t a (index_zero t 5 a) y))

theorem blk6 : (iblk m c 6 t : S8x1x2048.Idx → _) = V m c main_arg7 := funext fun y =>
  congrArg (V m c main_arg7) (funext fun a => Fin.ext (Pipeline.Window.rect_emb_val_of_index_zero (cfg0.win 6) t a (index_zero t 6 a) y))

/-- The result array, in the arguments. -/
def whole : S51200x2048.Idx → EReal :=
  out0_7 (F := Ideal) (V m c main_v2) (V m c main_arg2) (V m c main_arg3) (V m c main_arg4) (V m c main_arg5) (V m c main_arg6) (V m c main_arg7)

theorem read_whole (G : S51200x2048.Idx → EReal) : (cfg0.win 7).cut (grid0.coords t) G = ((cfg0.win 7).blk t).view.read (Elt Ideal) G := by
  funext y
  have h : ((cfg0.win 7).rect t).emb y = (y : S51200x2048.Idx) :=
    funext fun a => Fin.ext (Pipeline.Window.rect_emb_val_of_index_zero (cfg0.win 7) t a (index_zero t 7 a) y)
  exact (congrArg G h).symm

theorem flushed_eq : (dats m 0 c).flushed 7 t = ((cfg0.win 7).blk t).view.read (Elt Ideal) (whole m c) := by
  show (cfg0.win 7).cut (grid0.coords t) ((dats m 0 c).after 7 t) = _
  rw [after0_7]
  have e : out0_7 (iblk m c 0 t) (iblk m c 1 t) (iblk m c 2 t) (iblk m c 3 t) (iblk m c 4 t) (iblk m c 5 t) (iblk m c 6 t) = whole m c := by
    unfold whole
    rw [← blk0 m c t, ← blk1 m c t, ← blk2 m c t, ← blk3 m c t, ← blk4 m c t, ← blk5 m c t, ← blk6 m c t]
  rw [e]
  exact read_whole t _

theorem final : (dats m 0 c).arrAt 7 cfg0.N = whole m c :=
  (dats m 0 c).arrAt_eq_of_cover 7 (whole m c) (fun t _ => flushed_eq m c t) (fun i => by
    have hN : cfg0.N = 1 := N_0
    let t : Fin cfg0.N := ⟨0, by omega⟩
    refine ⟨t, flush0_7 t, ?_⟩
    have hi : ((cfg0.win 7).rect t).emb (i : S51200x2048.Idx) = i :=
      funext fun a => Fin.ext (Pipeline.Window.rect_emb_val_of_index_zero (cfg0.win 7) t a (index_zero t 7 a) (i : S51200x2048.Idx))
    have hm := ((cfg0.win 7).blk t).view.emb_mem_set (i : S51200x2048.Idx)
    exact hi ▸ hm)

theorem whole_at (R : Fin 51200) (j : Fin 2048) (e : Fin 8)
    (he : m ((c : Thread nD τ).loc main_arg0) (ix1 (⟨R.val / 256, by omega⟩ : Fin 200)) = BitVec.ofNat 32 e) :
    whole m c (ix2 R j) = rowOut (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) e R j := by
  unfold whole
  rw [out_at (x0 := V m c main_v2) (R := R) (j := j) (e := e) (he := (row_expert m c R).trans he), V_main_arg2, V_main_arg3, V_main_arg4, V_main_arg5, V_main_arg6, V_main_arg7]

/-- THE RUN: the result array as computed above, the arguments unchanged. -/
theorem run : θ_run defs (onTc (τ := τ) (main (F := Ideal))) ⟨m, fun _ => 0, ρ⟩ (fun r => ∀ c : Dev nD,
      r.2.mem ((c.tc : Thread nD τ).loc main_v3) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 7).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c)))⟩) (run_main m ρ)

end Cert.ReferenceIdeal.Val
end
-- ==== Proof.Decode.lean ====
/- The precondition on the tables and the mask on the result's rows, read as statements about numbers. -/
module

public import proofs.«01_k».proof.Defs
public import proofs.«01_k».proof.Proof.Gen.Pre_pre
public import proofs.«01_k».proof.Proof.Gen.On_rows_of_tiles
public import Idealize.ShloMosaic.Lib.ReduceAll
public import Idealize.ShloMosaic.Lib.Routing.Words
public import Idealize.ShloMosaic.Lib.Pointwise
public import Idealize.ShloMosaic.Lib.StableHlo.Predicate

@[expose] public section

set_option maxRecDepth 16384
set_option Elab.async false

noncomputable section

namespace Cert.Decode

open Idealize.ShloMosaic

theorem and_one {a b : BitVec 1} (h : a &&& b = 1#1) : a = 1#1 ∧ b = 1#1 := by
  revert a b; decide

theorem sge_one {a b : BitVec 32} (h : IntOp.cmpi .sge a b = 1#1) : b.toInt ≤ a.toInt := by
  simpa [IntOp.cmpi, StableHlo.Predicate.ofBool_eq_one_iff, BitVec.sle] using h

theorem slt_one {a b : BitVec 32} (h : IntOp.cmpi .slt a b = 1#1) : a.toInt < b.toInt := by
  simpa [IntOp.cmpi, StableHlo.Predicate.ofBool_eq_one_iff, BitVec.slt] using h

instance : Subsingleton (⟨0, ![]⟩ : Shape).Idx := ⟨fun a b => funext fun x => x.elim0⟩

/-- The precondition: every expert one of the eight, at least one tile. -/
theorem pre {F : FTy → Type} [FloatOps F] (g : IVec Cert.Pre_pre.S200 32) (n : IVec Cert.Pre_pre.S1 32) (a2 a3 a4 a5 a6 a7)
    (h : Cert.Pre_pre.fn (F := F) g n a2 a3 a4 a5 a6 a7 = fun _ => 1#1) :
    (∀ x, (g x).toNat < 8) ∧ ∀ x, 0 < (n x).toInt := by
  have e := and_one (congrFun h (fun x => x.elim0))
  refine ⟨fun x => ?_, fun x => ?_⟩
  · have e1 := and_one (Host.reduce_andi_all _ _ _ _ _ e.1 x)
    have h1 := sge_one e1.1
    have h2 := slt_one e1.2
    change (0#32 : BitVec 32).toInt ≤ (g x).toInt at h1
    change (g x).toInt < (8#32 : BitVec 32).toInt at h2
    have := (g x).isLt
    have z : (0#32 : BitVec 32).toInt = 0 := by decide
    have z8 : (8#32 : BitVec 32).toInt = 8 := by decide
    rw [z, BitVec.toInt_eq_toNat_cond] at h1; rw [z8, BitVec.toInt_eq_toNat_cond] at h2
    split at h1 <;> omega
  · have h1 := sge_one (Host.reduce_andi_all _ _ _ _ _ e.2 x)
    change (1#32 : BitVec 32).toInt ≤ (n x).toInt at h1
    have z : (1#32 : BitVec 32).toInt = 1 := by decide
    rw [z] at h1; omega

/-- The mask is set at a row of a computed tile only. -/
theorem mask {F : FTy → Type} [FloatOps F] (g : IVec Cert.On_rows_of_tiles.S200 32) (n : IVec Cert.On_rows_of_tiles.S1 32) (a2 a3 a4 a5 a6 a7)
    (R : Fin 51200) (j : Fin 2048)
    (h : Cert.On_rows_of_tiles.fn (F := F) g n a2 a3 a4 a5 a6 a7 (ix2 R j) = 1#1) :
    ((R.val / 256 : ℕ) : ℤ) < (n (ix1 0)).toInt := by
  have h1 := slt_one h
  have hb : (⟨0, by decide⟩ : Fin 1) = 0 := rfl
  have e : Host.divsi (iotaInDim Cert.On_rows_of_tiles.S51200x2048 32 0) (fun _ => 256#32) (ix2 R j) = BitVec.ofNat 32 (R.val / 256) :=
    Routing.divsi_word .host (a := R.val) (b := 256) (by omega) (by omega) (by omega)
  change (Host.divsi (iotaInDim Cert.On_rows_of_tiles.S51200x2048 32 0) (fun _ => 256#32) (ix2 R j)).toInt < (n _).toInt at h1
  rw [e] at h1
  have z : (BitVec.ofNat 32 (R.val / 256)).toInt = ((R.val / 256 : ℕ) : ℤ) := by
    rw [BitVec.toInt_eq_toNat_cond, BitVec.toNat_ofNat, Nat.mod_eq_of_lt (by omega)]
    split <;> omega
  rw [z] at h1
  refine lt_of_lt_of_eq h1 (congrArg (fun i => (n i).toInt) (funext fun a => ?_))
  match a with
  | ⟨0, _⟩ => exact Subsingleton.elim (α := Fin 1) _ _

end Cert.Decode
-- ==== Proof.QuantRow.lean ====
/- What the row quantiser computes, row by row, over the extended reals. -/
module

public import proofs.«01_k».proof.Proof.Quant
public import Idealize.ShloMosaic.Lib.Pointwise

@[expose] public section

set_option maxRecDepth 16384
set_option Elab.async false

noncomputable section

namespace Cert.Q

open Idealize.ShloMosaic

/-- The greatest magnitude of a row. -/
def mxOf (x : Fin 2048 → EReal) : EReal :=
  Finset.fold max (Ideal.ofBits FTy.f32 4286578688#32) (fun k => FloatOps.absf (F := Ideal) (φ := .f32) (x k)) Finset.univ

/-- A row's code at column `j`: the element over the row's scale, saturated. -/
def codeOf (x : Fin 2048 → EReal) (j : Fin 2048) : EReal :=
  min (Ideal.ofBits FTy.f32 1138753536#32) (max (Ideal.ofBits FTy.f32 3286237184#32) (x j * kI (mxOf x)))

/-- A row's scale. -/
def scaleOf (x : Fin 2048 → EReal) : EReal := kS (mxOf x)

theorem hz2 : (![0, 0] : Fin 2 → Nat) = fun _ => 0 := funext fun a => by fin_cases a <;> rfl

end Cert.Q

end
-- ==== Proof.QuantTile.lean ====
/- The tiled quantiser call: what its body leaves in its two blocks. -/
module

public import proofs.«01_k».proof.Defs
public import proofs.«01_k».proof.Proof.QuantRow
public import proofs.«01_k».proof.Proof.Gen.QuantIdeal
public import proofs.«01_k».proof.Proof.Gen.QuantIdeal.Frame
public import Idealize.ShloMosaic.Lib.Pointwise
public import Idealize.ShloMosaic.Lib.Pipeline.Value
public import Idealize.ShloMosaic.Lib.Pipeline.Covers

@[expose] public section

set_option maxRecDepth 16384
set_option Elab.async false

noncomputable section

namespace Cert.QuantIdeal.Codes

open Cert.QuantIdeal Cert.QuantIdeal.Gen
open Idealize.ShloMosaic Idealize.SL.Sem
open Idealize.ShloMosaic.TcCoe
open Idealize.ShloMosaic.Pipeline (Dat Cfg Window)
open Cert.Q

theorem expo (x : Vec Ideal S512x2048 .bf16) (r : Fin 512) :
    k0_pay4 (F := Ideal) x (ix2 r 0) = kE (mxOf fun k => x (ix2 r k)) := by
  pointwise [k0_pay4, k0_pay3]
  unfold kE kCnt fieldWord mxOf
  simp only [ne_eq, not_true_eq_false, if_false]

/-- The body's codes. -/
theorem codes_at (x : Vec Ideal S512x2048 .bf16) (r : Fin 512) (j : Fin 2048) :
    out0_1 (F := Ideal) x (ix2 r j : S512x2048.Idx) = codeOf (fun k => x (ix2 r k)) j := by
  unfold out0_1
  rw [View.canon_unit_zero hz2, View.ld_unit_zero hz2]
  unfold codeOf kI fieldWord
  rw [← expo]
  pointwise [k0_pay1, k0_pay5, k0_pay3]

/-- The body's scales. -/
theorem scale_at (x : Vec Ideal S512x2048 .bf16) (r : Fin 512) :
    out0_2 (F := Ideal) x (ix2 r 0 : S512x1.Idx) = scaleOf (fun k => x (ix2 r k)) := by
  unfold out0_2
  rw [View.canon_unit_zero hz2, View.ld_unit_zero hz2]
  unfold scaleOf kS fieldWord
  rw [← expo]
  pointwise [k0_pay2]

end Cert.QuantIdeal.Codes

end
-- ==== Proof.QuantRef.lean ====
/- The reference quantiser: its two arrays at every index. -/
module

public import proofs.«01_k».proof.Defs
public import proofs.«01_k».proof.Proof.QuantRow
public import proofs.«01_k».proof.Proof.Gen.QuantReferenceIdeal
public import proofs.«01_k».proof.Proof.Gen.QuantReferenceIdeal.Frame
public import Idealize.ShloMosaic.Lib.Pointwise
public import Idealize.ShloMosaic.Lib.Pipeline.Value
public import Idealize.ShloMosaic.Lib.Pipeline.Covers

@[expose] public section

set_option maxRecDepth 16384
set_option Elab.async false

noncomputable section

namespace Cert.QuantReferenceIdeal.Codes

open Cert.QuantReferenceIdeal Cert.QuantReferenceIdeal.Gen
open Idealize.ShloMosaic Idealize.SL.Sem
open Idealize.ShloMosaic.TcCoe
open Idealize.ShloMosaic.Pipeline (Dat Cfg Window)
open Cert.Q

/-- The greatest magnitudes of the rows. -/
def amx (h : FVec Ideal S24576x2048 .f32) : FVec Ideal S24576x1 .f32 :=
  shapeCast S24576x1 (multiReduction (F := Ideal) .maximumf [1] S24576 (absf h) 0xFF800000#32 reduces_S24576x2048_S24576 (.inl rfl) rfl) shapeCasts_S24576_S24576x1

theorem amx_at (h : FVec Ideal S24576x2048 .f32) (R : Fin 24576) :
    amx h (ix2 R 0) = Finset.fold max (Ideal.ofBits FTy.f32 4286578688#32) (fun k : Fin 2048 => FloatOps.absf (F := Ideal) (φ := .f32) (h (ix2 R k))) Finset.univ := by
  pointwise [amx]

/-- The candidate powers of two. -/
def powers : FVec Ideal S1x253 .f32 :=
  exp2 (subf (sitofp .f32 (iota .tc S1x253 32 [1] iota_S1x253_d1_w32)) (broadcast S1x253 (Scalar.ofBits .f32 0x42FC0000#32)))

theorem powers_at (x : Fin 253) : powers (ix2 0 x) = rP x := by
  unfold rP
  pointwise [powers]

/-- The scales from the greatest magnitudes `v5` and the candidates `v10`. -/
def scales (v5 : FVec Ideal S24576x1 .f32) (v10 : FVec Ideal S1x253 .f32) : FVec Ideal S24576x1 .f32 :=
  have cst_2 : Ideal .f32 := Scalar.ofBits .f32 0x3B124925#32
  have v11 : FVec Ideal S24576x1 .f32 := broadcast S24576x1 cst_2
  have v12 : FVec Ideal S24576x1 .f32 := mulf v5 v11
  have v13 : FVec Ideal S24576x253 .f32 := broadcastTo S24576x253 v10 broadcasts_S1x253_S24576x253
  have v14 : FVec Ideal S24576x253 .f32 := broadcastTo S24576x253 v12 broadcasts_S24576x1_S24576x253
  have v15 : IVec S24576x253 1 := cmpf .ogt v13 v14
  have cst_3 : Ideal .f32 := Scalar.ofBits .f32 0x7E800000#32
  have v16 : FVec Ideal S1x253 .f32 := shapeCast S1x253 v10 shapeCasts_S1x253_S1x253
  have v17 : FVec Ideal S24576x253 .f32 := broadcastTo S24576x253 v16 broadcasts_S1x253_S24576x253
  have v18 : FVec Ideal S24576x253 .f32 := broadcast S24576x253 cst_3
  have v19 : FVec Ideal S24576x253 .f32 := select v15 v17 v18
  have v20 : FVec Ideal S24576 .f32 := multiReduction .minimumf [1] S24576 v19 0x7F800000#32 reduces_S24576x253_S24576 (.inl rfl) rfl
  have v21 : FVec Ideal S24576x1 .f32 := shapeCast S24576x1 v20 shapeCasts_S24576_S24576x1
  have cst_5 : Ideal .f32 := Scalar.ofBits .f32 0x00000000#32
  have v22 : FVec Ideal S24576x1 .f32 := broadcast S24576x1 cst_5
  have v23 : IVec S24576x1 1 := cmpf .oeq v5 v22
  have cst_6 : Ideal .f32 := Scalar.ofBits .f32 0x3F800000#32
  have v24 : FVec Ideal S24576x1 .f32 := broadcast S24576x1 cst_6
  have v25 : FVec Ideal S24576x1 .f32 := select v23 v24 v21
  v25

theorem scales_at (v5 : FVec Ideal S24576x1 .f32) (v10 : FVec Ideal S1x253 .f32) (R : Fin 24576) :
    scales v5 v10 (ix2 R 0) = if v5 (ix2 R 0) = 0 then (1 : EReal) else Finset.fold min (Ideal.ofBits FTy.f32 2139095040#32)
      (fun x : Fin 253 => if v5 (ix2 R 0) * Ideal.ofBits FTy.f32 991054117#32 < v10 (ix2 0 x) then v10 (ix2 0 x) else Ideal.ofBits FTy.f32 2122317824#32) Finset.univ := by
  pointwise [scales]

theorem ext_at (x : Vec Ideal S24576x2048 .bf16) (R : Fin 24576) (j : Fin 2048) : k0_pay1 (F := Ideal) x (ix2 R j) = x (ix2 R j) := by
  pointwise [k0_pay1]

theorem scale_vec (x : Vec Ideal S24576x2048 .bf16) : k0_pay2 (F := Ideal) x = scales (amx (k0_pay1 x)) powers := rfl

theorem scale_ref (x : Vec Ideal S24576x2048 .bf16) (R : Fin 24576) :
    k0_pay2 (F := Ideal) x (ix2 R 0) = rS (mxOf fun k => x (ix2 R k)) := by
  rw [scale_vec, scales_at, amx_at]
  simp only [ext_at, powers_at]
  rfl

/-- The codes from the rows and their scales. -/
def codes (v : FVec Ideal S24576x2048 .f32) (s : FVec Ideal S24576x1 .f32) : FVec Ideal S24576x2048 .fp8e4m3 :=
  have v26 : FVec Ideal S24576x2048 .f32 := broadcastTo S24576x2048 s broadcasts_S24576x1_S24576x2048
  have v27 : FVec Ideal S24576x2048 .f32 := divf v v26
  have cst_7 : Ideal .f32 := Scalar.ofBits .f32 0xC3E00000#32
  have cst_8 : Ideal .f32 := Scalar.ofBits .f32 0x43E00000#32
  have v28 : FVec Ideal S24576x2048 .f32 := broadcast S24576x2048 cst_7
  have v29 : FVec Ideal S24576x2048 .f32 := maximumf v28 v27
  have v30 : FVec Ideal S24576x2048 .f32 := broadcast S24576x2048 cst_8
  have v31 : FVec Ideal S24576x2048 .f32 := minimumf v30 v29
  have v32 : FVec Ideal S24576x2048 .fp8e4m3 := truncf .fp8e4m3 v31 bitsLt_fp8e4m3_f32
  v32

theorem codes_vec (x : Vec Ideal S24576x2048 .bf16) : k0_pay3 (F := Ideal) x = codes (k0_pay1 x) (k0_pay2 x) := rfl

theorem codes_ref (v : FVec Ideal S24576x2048 .f32) (s : FVec Ideal S24576x1 .f32) (R : Fin 24576) (j : Fin 2048) :
    codes v s (ix2 R j) = (min (Ideal.ofBits FTy.f32 1138753536#32) (max (Ideal.ofBits FTy.f32 3286237184#32) (Ideal.div (v (ix2 R j)) (s (ix2 R 0)))) : EReal) := by
  pointwise [codes]

/-- The reference's codes. -/
theorem codes_at (x : Vec Ideal S24576x2048 .bf16) (R : Fin 24576) (j : Fin 2048) :
    out0_1 (F := Ideal) x (ix2 R j : S24576x2048.Idx) = codeOf (fun k => x (ix2 R k)) j := by
  unfold out0_1
  rw [View.canon_unit_zero hz2, View.ld_unit_zero hz2, codes_vec, codes_ref, ext_at, scale_ref, div_rS]
  rfl

/-- The reference's scales. -/
theorem scale_at (x : Vec Ideal S24576x2048 .bf16) (R : Fin 24576) :
    out0_2 (F := Ideal) x (ix2 R 0 : S24576x1.Idx) = scaleOf (fun k => x (ix2 R k)) := by
  unfold out0_2
  rw [View.canon_unit_zero hz2, View.ld_unit_zero hz2, scale_ref]
  exact (kS_eq _).symm

end Cert.QuantReferenceIdeal.Codes

end
-- ==== Proof.QuantVal.lean ====
/- The row quantiser: the tiled call's two result arrays and the gridless reference's, over the extended reals, are one
   function of the rows. -/
module

public import proofs.«01_k».proof.Defs
public import proofs.«01_k».proof.Proof.QuantTile
public import proofs.«01_k».proof.Proof.QuantRef

@[expose] public section

set_option maxRecDepth 16384
set_option Elab.async false

noncomputable section

namespace Cert.QuantIdeal.Codes

open Cert.QuantIdeal Cert.QuantIdeal.Gen
open Idealize.ShloMosaic Idealize.SL.Sem
open Idealize.ShloMosaic.TcCoe
open Idealize.ShloMosaic.Pipeline (Dat Cfg Window)
open Cert.Q

variable (m : (ℓ : Loc nD τ sig) → Buf (Elt Ideal) ℓ) (ρ : Dev nD → PrngReg) (c : Dev nD)
variable (t : Fin cfg0.N)

/-- The rows of the argument. -/
abbrev rowsOf (a : S8x3072x2048.Idx → EReal) : S24576x2048.Idx → EReal := shapeCast S24576x2048 a shapeCasts_S8x3072x2048_S24576x2048

theorem V0 : V m c main_v0 = rowsOf (m ((c : Thread nD τ).loc main_arg0)) := by
  unfold_abbrev_sides
  after_results
  rfl

/-- The code array and the scale array of an array of rows. -/
def codeArr (x : S24576x2048.Idx → EReal) : S24576x2048.Idx → EReal := fun i => codeOf (fun k => x (ix2 (i 0) k)) (i 1)
def scaleArr (x : S24576x2048.Idx → EReal) : S24576x1.Idx → EReal := fun i => scaleOf (fun k => x (ix2 (i 0) k))

theorem index_eq (w : Fin cfg0.W) : ∀ a, (cfg0.win w).index t a = if a.val = 0 then t.val else 0 := by
  have h : ∀ w : Fin cfg0.W, ∀ t : Fin cfg0.N, ∀ a, (cfg0.win w).index t a = if a.val = 0 then t.val else 0 := by decide +kernel
  exact h w t

theorem t_lt : t.val < 48 := lt_of_lt_of_eq t.isLt N_0

theorem emb0 (r : Fin 512) (j : Fin 2048) :
    ((cfg0.win 0).rect t).emb (ix2 r j : S512x2048.Idx) = (ix2 (⟨t.val * 512 + r, by have := t_lt t; omega⟩ : Fin 24576) j : S24576x2048.Idx) := by
  refine funext fun a => Fin.ext ?_
  refine (Pipeline.Window.rect_emb_val (cfg0.win 0) t (ix2 r j : S512x2048.Idx) a).trans ?_
  rw [index_eq]
  match a with
  | ⟨0, _⟩ => rfl
  | ⟨1, _⟩ => show 0 * 2048 + j.val = j.val; omega

theorem emb1 (r : Fin 512) (j : Fin 2048) :
    ((cfg0.win 1).rect t).emb (ix2 r j : S512x2048.Idx) = (ix2 (⟨t.val * 512 + r, by have := t_lt t; omega⟩ : Fin 24576) j : S24576x2048.Idx) := by
  refine funext fun a => Fin.ext ?_
  refine (Pipeline.Window.rect_emb_val (cfg0.win 1) t (ix2 r j : S512x2048.Idx) a).trans ?_
  rw [index_eq]
  match a with
  | ⟨0, _⟩ => rfl
  | ⟨1, _⟩ => show 0 * 2048 + j.val = j.val; omega

theorem emb2 (r : Fin 512) :
    ((cfg0.win 2).rect t).emb (ix2 r 0 : S512x1.Idx) = (ix2 (⟨t.val * 512 + r, by have := t_lt t; omega⟩ : Fin 24576) 0 : S24576x1.Idx) := by
  refine funext fun a => Fin.ext ?_
  refine (Pipeline.Window.rect_emb_val (cfg0.win 2) t (ix2 r 0 : S512x1.Idx) a).trans ?_
  rw [index_eq]
  match a with
  | ⟨0, _⟩ => rfl
  | ⟨1, _⟩ => rfl

theorem blk0 (r : Fin 512) (j : Fin 2048) :
    iblk m c 0 t (ix2 r j : S512x2048.Idx) = V m c main_v0 (ix2 (⟨t.val * 512 + r, by have := t_lt t; omega⟩ : Fin 24576) j : S24576x2048.Idx) :=
  congrArg (V m c main_v0) (emb0 t r j)

theorem flushed1 : (dats m 0 c).flushed 1 t = ((cfg0.win 1).blk t).view.read (Elt Ideal) (codeArr (V m c main_v0)) := by
  show (cfg0.win 1).cut (grid0.coords t) ((dats m 0 c).after 1 t) = _
  rw [after0_1]
  funext y
  obtain ⟨r, j, rfl⟩ : ∃ (r : Fin 512) (j : Fin 2048), y = (ix2 r j : S512x2048.Idx) := ⟨y 0, y 1, by funext a; match a with | ⟨0, _⟩ => rfl | ⟨1, _⟩ => rfl⟩
  show (out0_1 (F := Ideal) (iblk m c 0 t)) (ix2 r j : S512x2048.Idx) = codeArr (V m c main_v0) (((cfg0.win 1).rect t).emb (ix2 r j : S512x2048.Idx))
  rw [emb1 t r j]
  refine (codes_at _ r j).trans ?_
  show codeOf _ j = codeOf _ j
  exact congrArg (fun f => codeOf f j) (funext fun k => blk0 m c t r k)

theorem flushed2 : (dats m 0 c).flushed 2 t = ((cfg0.win 2).blk t).view.read (Elt Ideal) (scaleArr (V m c main_v0)) := by
  show (cfg0.win 2).cut (grid0.coords t) ((dats m 0 c).after 2 t) = _
  rw [after0_2]
  funext y
  obtain ⟨r, rfl⟩ : ∃ (r : Fin 512), y = (ix2 r 0 : S512x1.Idx) :=
    ⟨y 0, by funext a; match a with | ⟨0, _⟩ => rfl | ⟨1, _⟩ => exact Fin.ext (by have h : (y 1).val < 1 := (y 1).isLt; show (y 1).val = 0; omega)⟩
  show (out0_2 (F := Ideal) (iblk m c 0 t)) (ix2 r 0 : S512x1.Idx) = scaleArr (V m c main_v0) (((cfg0.win 2).rect t).emb (ix2 r 0 : S512x1.Idx))
  rw [emb2 t r]
  refine (scale_at _ r).trans ?_
  exact congrArg scaleOf (funext fun k => blk0 m c t r k)

theorem final1 : (dats m 0 c).arrAt 1 cfg0.N = codeArr (V m c main_v0) :=
  (dats m 0 c).arrAt_eq_of_cover 1 (codeArr (V m c main_v0)) (fun t _ => flushed1 m c t) (fun i => by
    have hN : cfg0.N = 48 := N_0
    obtain ⟨R, j, rfl⟩ : ∃ (R : Fin 24576) (j : Fin 2048), i = (ix2 R j : S24576x2048.Idx) := ⟨i 0, i 1, by funext a; match a with | ⟨0, _⟩ => rfl | ⟨1, _⟩ => rfl⟩
    let t : Fin cfg0.N := ⟨R.val / 512, by omega⟩
    refine ⟨t, flush0_1 t, ?_⟩
    have hi : ((cfg0.win 1).rect t).emb (ix2 (⟨R.val % 512, by omega⟩ : Fin 512) j : S512x2048.Idx) = (ix2 R j : S24576x2048.Idx) := by
      refine (emb1 t _ j).trans (congrArg (fun R => (ix2 R j : S24576x2048.Idx)) (Fin.ext ?_))
      show R.val / 512 * 512 + R.val % 512 = R.val
      omega
    have hm := ((cfg0.win 1).blk t).view.emb_mem_set (ix2 (⟨R.val % 512, by omega⟩ : Fin 512) j : S512x2048.Idx)
    exact hi ▸ hm)

theorem final2 : (dats m 0 c).arrAt 2 cfg0.N = scaleArr (V m c main_v0) :=
  (dats m 0 c).arrAt_eq_of_cover 2 (scaleArr (V m c main_v0)) (fun t _ => flushed2 m c t) (fun i => by
    have hN : cfg0.N = 48 := N_0
    obtain ⟨R, rfl⟩ : ∃ (R : Fin 24576), i = (ix2 R 0 : S24576x1.Idx) :=
      ⟨i 0, by funext a; match a with | ⟨0, _⟩ => rfl | ⟨1, _⟩ => exact Fin.ext (by have h : (i 1).val < 1 := (i 1).isLt; show (i 1).val = 0; omega)⟩
    let t : Fin cfg0.N := ⟨R.val / 512, by omega⟩
    refine ⟨t, flush0_2 t, ?_⟩
    have hi : ((cfg0.win 2).rect t).emb (ix2 (⟨R.val % 512, by omega⟩ : Fin 512) 0 : S512x1.Idx) = (ix2 R 0 : S24576x1.Idx) := by
      refine (emb2 t _).trans (congrArg (fun R => (ix2 R 0 : S24576x1.Idx)) (Fin.ext ?_))
      show R.val / 512 * 512 + R.val % 512 = R.val
      omega
    have hm := ((cfg0.win 2).blk t).view.emb_mem_set (ix2 (⟨R.val % 512, by omega⟩ : Fin 512) 0 : S512x1.Idx)
    exact hi ▸ hm)

theorem run : θ_run defs (onTc (τ := τ) (main (F := Ideal))) ⟨m, fun _ => 0, ρ⟩ (fun r => ∀ c : Dev nD,
      r.2.mem ((c.tc : Thread nD τ).loc main_v1_0) = codeArr (rowsOf (m ((c : Thread nD τ).loc main_arg0)))
      ∧ r.2.mem ((c.tc : Thread nD τ).loc main_v1_1) = scaleArr (rowsOf (m ((c : Thread nD τ).loc main_arg0)))
      ∧ r.2.mem ((c.tc : Thread nD τ).loc main_arg0) = m ((c.tc : Thread nD τ).loc main_arg0)) :=
  (θ_run defs _ _).mono (fun _ h c => ⟨((h c).1 1).trans ((final1 m c).trans (congrArg codeArr (V0 m c))),
      ((h c).1 2).trans ((final2 m c).trans (congrArg scaleArr (V0 m c))),
      ((h c).2 main_arg0 (Pipeline.mem_restRefs_of main_arg0 (by decide) (by decide))).trans (V_main_arg0 m c)⟩) (run_main m ρ)

end Cert.QuantIdeal.Codes

namespace Cert.QuantReferenceIdeal.Codes

open Cert.QuantReferenceIdeal Cert.QuantReferenceIdeal.Gen
open Idealize.ShloMosaic Idealize.SL.Sem
open Idealize.ShloMosaic.TcCoe
open Idealize.ShloMosaic.Pipeline (Dat Cfg Window)
open Cert.Q
open Cert.QuantIdeal.Codes (codeArr scaleArr rowsOf)

variable (m : (ℓ : Loc nD τ sig) → Buf (Elt Ideal) ℓ) (ρ : Dev nD → PrngReg) (c : Dev nD)
variable (t : Fin cfg0.N)

theorem V0 : V m c main_v0 = rowsOf (m ((c : Thread nD τ).loc main_arg0)) := by
  unfold_abbrev_sides
  after_results
  rfl

theorem index_zero (w : Fin cfg0.W) (a) : (cfg0.win w).index t a = 0 := by
  have h : ∀ t : Fin cfg0.N, ∀ w : Fin cfg0.W, ∀ a, (cfg0.win w).index t a = 0 := by decide +kernel
  exact h t w a

theorem blk0 : (iblk m c 0 t : S24576x2048.Idx → _) = V m c main_v0 := funext fun y =>
  congrArg (V m c main_v0) (funext fun a => Fin.ext (Pipeline.Window.rect_emb_val_of_index_zero (cfg0.win 0) t a (index_zero t 0 a) y))

theorem out1 (x : Vec Ideal S24576x2048 .bf16) : out0_1 (F := Ideal) x = codeArr x := by
  funext i
  obtain ⟨R, j, rfl⟩ : ∃ (R : Fin 24576) (j : Fin 2048), i = (ix2 R j : S24576x2048.Idx) := ⟨i 0, i 1, by funext a; match a with | ⟨0, _⟩ => rfl | ⟨1, _⟩ => rfl⟩
  exact codes_at x R j

theorem out2 (x : Vec Ideal S24576x2048 .bf16) : out0_2 (F := Ideal) x = scaleArr x := by
  funext i
  obtain ⟨R, rfl⟩ : ∃ (R : Fin 24576), i = (ix2 R 0 : S24576x1.Idx) :=
    ⟨i 0, by funext a; match a with | ⟨0, _⟩ => rfl | ⟨1, _⟩ => exact Fin.ext (by have h : (i 1).val < 1 := (i 1).isLt; show (i 1).val = 0; omega)⟩
  exact scale_at x R

theorem read1 (G : S24576x2048.Idx → EReal) : (cfg0.win 1).cut (grid0.coords t) G = ((cfg0.win 1).blk t).view.read (Elt Ideal) G := by
  funext y
  have h : ((cfg0.win 1).rect t).emb y = (y : S24576x2048.Idx) :=
    funext fun a => Fin.ext (Pipeline.Window.rect_emb_val_of_index_zero (cfg0.win 1) t a (index_zero t 1 a) y)
  exact (congrArg G h).symm

theorem read2 (G : S24576x1.Idx → EReal) : (cfg0.win 2).cut (grid0.coords t) G = ((cfg0.win 2).blk t).view.read (Elt Ideal) G := by
  funext y
  have h : ((cfg0.win 2).rect t).emb y = (y : S24576x1.Idx) :=
    funext fun a => Fin.ext (Pipeline.Window.rect_emb_val_of_index_zero (cfg0.win 2) t a (index_zero t 2 a) y)
  exact (congrArg G h).symm

theorem flushed1 : (dats m 0 c).flushed 1 t = ((cfg0.win 1).blk t).view.read (Elt Ideal) (codeArr (V m c main_v0)) := by
  show (cfg0.win 1).cut (grid0.coords t) ((dats m 0 c).after 1 t) = _
  rw [after0_1]
  have e : out0_1 (iblk m c 0 t) = codeArr (V m c main_v0) := by
    rw [← blk0 m c t]
    exact out1 _
  rw [e]
  exact read1 t _

theorem flushed2 : (dats m 0 c).flushed 2 t = ((cfg0.win 2).blk t).view.read (Elt Ideal) (scaleArr (V m c main_v0)) := by
  show (cfg0.win 2).cut (grid0.coords t) ((dats m 0 c).after 2 t) = _
  rw [after0_2]
  have e : out0_2 (iblk m c 0 t) = scaleArr (V m c main_v0) := by
    rw [← blk0 m c t]
    exact out2 _
  rw [e]
  exact read2 t _

theorem final1 : (dats m 0 c).arrAt 1 cfg0.N = codeArr (V m c main_v0) :=
  (dats m 0 c).arrAt_eq_of_cover 1 (codeArr (V m c main_v0)) (fun t _ => flushed1 m c t) (fun i => by
    have hN : cfg0.N = 1 := N_0
    let t : Fin cfg0.N := ⟨0, by omega⟩
    refine ⟨t, flush0_1 t, ?_⟩
    have hi : ((cfg0.win 1).rect t).emb (i : S24576x2048.Idx) = i :=
      funext fun a => Fin.ext (Pipeline.Window.rect_emb_val_of_index_zero (cfg0.win 1) t a (index_zero t 1 a) (i : S24576x2048.Idx))
    have hm := ((cfg0.win 1).blk t).view.emb_mem_set (i : S24576x2048.Idx)
    exact hi ▸ hm)

theorem final2 : (dats m 0 c).arrAt 2 cfg0.N = scaleArr (V m c main_v0) :=
  (dats m 0 c).arrAt_eq_of_cover 2 (scaleArr (V m c main_v0)) (fun t _ => flushed2 m c t) (fun i => by
    have hN : cfg0.N = 1 := N_0
    let t : Fin cfg0.N := ⟨0, by omega⟩
    refine ⟨t, flush0_2 t, ?_⟩
    have hi : ((cfg0.win 2).rect t).emb (i : S24576x1.Idx) = i :=
      funext fun a => Fin.ext (Pipeline.Window.rect_emb_val_of_index_zero (cfg0.win 2) t a (index_zero t 2 a) (i : S24576x1.Idx))
    have hm := ((cfg0.win 2).blk t).view.emb_mem_set (i : S24576x1.Idx)
    exact hi ▸ hm)

theorem run : θ_run defs (onTc (τ := τ) (main (F := Ideal))) ⟨m, fun _ => 0, ρ⟩ (fun r => ∀ c : Dev nD,
      r.2.mem ((c.tc : Thread nD τ).loc main_v1_0) = codeArr (rowsOf (m ((c : Thread nD τ).loc main_arg0)))
      ∧ r.2.mem ((c.tc : Thread nD τ).loc main_v1_1) = scaleArr (rowsOf (m ((c : Thread nD τ).loc main_arg0)))
      ∧ r.2.mem ((c.tc : Thread nD τ).loc main_arg0) = m ((c.tc : Thread nD τ).loc main_arg0)) :=
  (θ_run defs _ _).mono (fun _ h c => ⟨((h c).1 1).trans ((final1 m c).trans (congrArg codeArr (V0 m c))),
      ((h c).1 2).trans ((final2 m c).trans (congrArg scaleArr (V0 m c))),
      ((h c).2 main_arg0 (Pipeline.mem_restRefs_of main_arg0 (by decide) (by decide))).trans (V_main_arg0 m c)⟩) (run_main m ρ)

end Cert.QuantReferenceIdeal.Codes

namespace Cert.QuantIdeal.Codes

open Cert.QuantIdeal Cert.QuantIdeal.Gen
open Idealize.ShloMosaic Idealize.SL.Sem
open Idealize.ShloMosaic.TcCoe

theorem agrees : Cert.algebraic_QuantIdeal_QuantReferenceIdeal := by
  intro m ρ m' ρ' _ hm
  refine ⟨fun c => codeArr (rowsOf (m ((c : Thread nD τ).loc main_arg0))), fun c => scaleArr (rowsOf (m ((c : Thread nD τ).loc main_arg0))), run m ρ, ?_⟩
  refine (θ_run Cert.QuantReferenceIdeal.defs _ _).mono (fun r hr c => ?_) (Cert.QuantReferenceIdeal.Codes.run m' ρ')
  have e := hm c
  exact ⟨(hr c).1.trans (congrArg (fun a => codeArr (rowsOf a)) e), (hr c).2.1.trans (congrArg (fun a => scaleArr (rowsOf a)) e), (hr c).2.2⟩

end Cert.QuantIdeal.Codes

end
-- ==== Proof.CombineVal.lean ====
/- The weighted sum of each token's two contributions: the tiled call's result array and the host reference's, over the
   extended reals, are one function of the gathered rows and the weights. -/
module

public import proofs.«01_k».proof.Defs
public import proofs.«01_k».proof.Proof.Gen.CombineIdeal.Value
public import proofs.«01_k».proof.Proof.Gen.CombineReferenceIdeal
public import proofs.«01_k».proof.Proof.Gen.CombineReferenceIdeal.Run
public import Idealize.ShloMosaic.Lib.Pointwise
public import Idealize.ShloMosaic.Lib.Pipeline.Value
public import Idealize.ShloMosaic.Lib.Pipeline.Covers
public import Idealize.ShloMosaic.Lib.Quiescent

@[expose] public section

set_option maxRecDepth 16384
set_option Elab.async false

noncomputable section

namespace Cert.CombineIdeal.Sum

open Cert.CombineIdeal Cert.CombineIdeal.Gen
open Idealize.ShloMosaic Idealize.SL.Sem
open Idealize.ShloMosaic.TcCoe
open Idealize.ShloMosaic.Pipeline (Dat Cfg Window)

variable (m : (ℓ : Loc nD τ sig) → Buf (Elt Ideal) ℓ) (ρ : Dev nD → PrngReg) (c : Dev nD)
variable (t : Fin cfg0.N)

/-- The two rows of a token, weighted and added. -/
def comb (A B : S24576x2048.Idx → EReal) (W : S24576x2.Idx → EReal) (R : Fin 24576) (j : Fin 2048) : EReal :=
  A (ix2 R j) * W (ix2 R 0) + B (ix2 R j) * W (ix2 R 1)

def combined : S24576x2048.Idx → EReal := fun i => comb (V m c main_v9) (V m c main_v18) (V m c main_v19) (i 0) (i 1)

theorem index_eq (w : Fin cfg0.W) : ∀ a, (cfg0.win w).index t a = if a.val = 0 then t.val else 0 := by
  have h : ∀ w : Fin cfg0.W, ∀ t : Fin cfg0.N, ∀ a, (cfg0.win w).index t a = if a.val = 0 then t.val else 0 := by decide +kernel
  exact h w t

theorem t_lt : t.val < 96 := lt_of_lt_of_eq t.isLt N_0

theorem blk0 (r : Fin 256) (j : Fin 2048) :
    iblk m c 0 t (ix2 r j : S256x2048.Idx) = V m c main_v9 (ix2 (⟨t.val * 256 + r, by have := t_lt t; omega⟩ : Fin 24576) j : S24576x2048.Idx) := by
  refine congrArg (V m c main_v9) (funext fun a => Fin.ext ?_)
  refine (Pipeline.Window.rect_emb_val (cfg0.win 0) t (ix2 r j : S256x2048.Idx) a).trans ?_
  rw [index_eq]
  match a with
  | ⟨0, _⟩ => rfl
  | ⟨1, _⟩ => show 0 * 2048 + j.val = j.val; omega

theorem blk1 (r : Fin 256) (j : Fin 2048) :
    iblk m c 1 t (ix2 r j : S256x2048.Idx) = V m c main_v18 (ix2 (⟨t.val * 256 + r, by have := t_lt t; omega⟩ : Fin 24576) j : S24576x2048.Idx) := by
  refine congrArg (V m c main_v18) (funext fun a => Fin.ext ?_)
  refine (Pipeline.Window.rect_emb_val (cfg0.win 1) t (ix2 r j : S256x2048.Idx) a).trans ?_
  rw [index_eq]
  match a with
  | ⟨0, _⟩ => rfl
  | ⟨1, _⟩ => show 0 * 2048 + j.val = j.val; omega

theorem blk2 (r : Fin 256) (k : Fin 2) :
    iblk m c 2 t (ix2 r k : S256x2.Idx) = V m c main_v19 (ix2 (⟨t.val * 256 + r, by have := t_lt t; omega⟩ : Fin 24576) k : S24576x2.Idx) := by
  refine congrArg (V m c main_v19) (funext fun a => Fin.ext ?_)
  refine (Pipeline.Window.rect_emb_val (cfg0.win 2) t (ix2 r k : S256x2.Idx) a).trans ?_
  rw [index_eq]
  match a with
  | ⟨0, _⟩ => rfl
  | ⟨1, _⟩ => show 0 * 2 + k.val = k.val; omega

theorem hz : (![0, 0] : Fin 2 → Nat) = fun _ => 0 := funext fun a => by fin_cases a <;> rfl

/-- What the body leaves at a row and column of its block. -/
theorem body (A B : Vec Ideal S256x2048 .f32) (W : Vec Ideal S256x2 .f32) (r : Fin 256) (j : Fin 2048) :
    (out0_3 (F := Ideal) A B W) (ix2 r j : S256x2048.Idx) = (A (ix2 r j) * W (ix2 r 0) + B (ix2 r j) * W (ix2 r 1) : EReal) := by
  unfold out0_3
  rw [View.ld_unit_zero hz, View.ld_unit_zero hz, View.ld_unit_zero hz, Value.canon3_eq]
  have h0 : Value.ix3_0 (ix2 r j : S256x2048.Idx) = ix2 r j := funext fun a => by match a with | ⟨0, _⟩ => rfl | ⟨1, _⟩ => rfl
  have h1 : Value.ix3_1 (ix2 r j : S256x2048.Idx) = ix2 r 0 := funext fun a => by match a with | ⟨0, _⟩ => rfl | ⟨1, _⟩ => rfl
  have h2 : Value.ix3_2 (ix2 r j : S256x2048.Idx) = ix2 r j := funext fun a => by match a with | ⟨0, _⟩ => rfl | ⟨1, _⟩ => rfl
  have h3 : Value.ix3_3 (ix2 r j : S256x2048.Idx) = ix2 r 1 := funext fun a => by match a with | ⟨0, _⟩ => rfl | ⟨1, _⟩ => rfl
  show (A (Value.ix3_0 (ix2 r j)) * W (Value.ix3_1 (ix2 r j)) + B (Value.ix3_2 (ix2 r j)) * W (Value.ix3_3 (ix2 r j)) : EReal) = _
  rw [h0, h1, h2, h3]

theorem flushed_eq : (dats m 0 c).flushed 3 t = ((cfg0.win 3).blk t).view.read (Elt Ideal) (combined m c) := by
  rw [Value.flushed3]
  funext y
  obtain ⟨r, j, rfl⟩ : ∃ (r : Fin 256) (j : Fin 2048), y = (ix2 r j : S256x2048.Idx) := ⟨y 0, y 1, by funext a; match a with | ⟨0, _⟩ => rfl | ⟨1, _⟩ => rfl⟩
  show (out0_3 (F := Ideal) (iblk m c 0 t) (iblk m c 1 t) (iblk m c 2 t)) (ix2 r j : S256x2048.Idx) = combined m c (((cfg0.win 3).rect t).emb (ix2 r j : S256x2048.Idx))
  have he : ((cfg0.win 3).rect t).emb (ix2 r j : S256x2048.Idx) = (ix2 (⟨t.val * 256 + r, by have := t_lt t; omega⟩ : Fin 24576) j : S24576x2048.Idx) := by
    refine funext fun a => Fin.ext ?_
    refine (Pipeline.Window.rect_emb_val (cfg0.win 3) t (ix2 r j : S256x2048.Idx) a).trans ?_
    rw [index_eq]
    match a with
    | ⟨0, _⟩ => rfl
    | ⟨1, _⟩ => show 0 * 2048 + j.val = j.val; omega
  rw [he]
  refine (body _ _ _ r j).trans ?_
  rw [blk0 m c t r j, blk1 m c t r j, blk2 m c t r 0, blk2 m c t r 1]
  rfl

theorem final : (dats m 0 c).arrAt 3 cfg0.N = combined m c :=
  (dats m 0 c).arrAt_eq_of_cover 3 (combined m c) (fun t _ => flushed_eq m c t) (fun i => by
    have hN : cfg0.N = 96 := N_0
    obtain ⟨R, j, rfl⟩ : ∃ (R : Fin 24576) (j : Fin 2048), i = (ix2 R j : S24576x2048.Idx) := ⟨i 0, i 1, by funext a; match a with | ⟨0, _⟩ => rfl | ⟨1, _⟩ => rfl⟩
    let t : Fin cfg0.N := ⟨R.val / 256, by omega⟩
    refine ⟨t, flush0_3 t, ?_⟩
    have hi : ((cfg0.win 3).rect t).emb (ix2 (⟨R.val % 256, by omega⟩ : Fin 256) j : S256x2048.Idx) = (ix2 R j : S24576x2048.Idx) := by
      refine funext fun a => Fin.ext ?_
      refine (Pipeline.Window.rect_emb_val (cfg0.win 3) t (ix2 (⟨R.val % 256, by omega⟩ : Fin 256) j : S256x2048.Idx) a).trans ?_
      rw [index_eq]
      match a with
      | ⟨0, _⟩ => show R.val / 256 * 256 + R.val % 256 = R.val; omega
      | ⟨1, _⟩ => show 0 * 2048 + j.val = j.val; omega
    have hm := ((cfg0.win 3).blk t).view.emb_mem_set (ix2 (⟨R.val % 256, by omega⟩ : Fin 256) j : S256x2048.Idx)
    exact hi ▸ hm)

/-- The indices of the rows: negative ones wrap around. -/
abbrev wrap (p : S24576x1.Idx → BitVec 32) : IVec S24576x1 32 :=
  broadcastInDim S24576x1 ![0] bcast_S24576_S24576x1_0 (select (cmpi .slt (shapeCast S24576 p shapeCasts_S24576x1_S24576) (broadcastInDim S24576 ![] bcast_S_S24576 (constantI S_ 32 0#32))) (addi (shapeCast S24576 p shapeCasts_S24576x1_S24576) (broadcastInDim S24576 ![] bcast_S_S24576 (constantI S_ 32 51200#32))) (shapeCast S24576 p shapeCasts_S24576x1_S24576))

abbrev rows0 (a0 : S51200x2048.Idx → EReal) (a1 : S49152.Idx → BitVec 32) : S24576x2048.Idx → EReal :=
  Host.gather gather_S51200x2048_S24576x1_S24576x2048_1_0_n_n_0_1_12048 a0 (wrap (extractStridedSlice S24576x1 ![0, 0] (shapeCast S24576x2 a1 shapeCasts_S49152_S24576x2) slices_S24576x2_S24576x1_0_0))

abbrev rows1 (a0 : S51200x2048.Idx → EReal) (a1 : S49152.Idx → BitVec 32) : S24576x2048.Idx → EReal :=
  Host.gather gather_S51200x2048_S24576x1_S24576x2048_1_0_n_n_0_1_12048 a0 (wrap (extractStridedSlice S24576x1 ![0, 1] (shapeCast S24576x2 a1 shapeCasts_S49152_S24576x2) slices_S24576x2_S24576x1_0_1))

theorem V9 : V m c main_v9 = rows0 (m ((c : Thread nD τ).loc main_arg0)) (m ((c : Thread nD τ).loc main_arg1)) := by
  unfold_abbrev_sides
  after_results
  rfl

theorem V18 : V m c main_v18 = rows1 (m ((c : Thread nD τ).loc main_arg0)) (m ((c : Thread nD τ).loc main_arg1)) := by
  unfold_abbrev_sides
  after_results
  rfl

theorem V19 : V m c main_v19 = shapeCast S24576x2 (m ((c : Thread nD τ).loc main_arg2) : S8x3072x2.Idx → EReal) shapeCasts_S8x3072x2_S24576x2 := by
  unfold_abbrev_sides
  after_results
  rfl

end Cert.CombineIdeal.Sum

namespace Cert.CombineReferenceIdeal.Sum

open Cert.CombineReferenceIdeal Cert.CombineReferenceIdeal.Gen
open Idealize.ShloMosaic Idealize.SL.Sem

/-- The reference's sum at an index. -/
theorem sum_at (A B : FVec Ideal S24576x2048 .f32) (W : FVec Ideal S24576x2 .f32) (R : Fin 24576) (j : Fin 2048) :
    truncf (F := Ideal) .bf16 (addf (addf (broadcastInDim S24576x2048 ![] bcast_S_S24576x2048 (constant S_ .f32 0x00000000#32))
        (mulf A (broadcastInDim S24576x2048 ![0, 1] bcast_S24576x1_S24576x2048_0_1 (extractStridedSlice S24576x1 ![0, 0] W slices_S24576x2_S24576x1_0_0))))
        (mulf B (broadcastInDim S24576x2048 ![0, 1] bcast_S24576x1_S24576x2048_0_1 (extractStridedSlice S24576x1 ![0, 1] W slices_S24576x2_S24576x1_0_1)))) bitsLt_bf16_f32 (ix2 R j)
      = Cert.CombineIdeal.Sum.comb A B W R j := by
  unfold Cert.CombineIdeal.Sum.comb
  pointwise []

end Cert.CombineReferenceIdeal.Sum

namespace Cert.CombineIdeal.Sum

open Cert.CombineIdeal Cert.CombineIdeal.Gen
open Idealize.ShloMosaic Idealize.SL.Sem
open Idealize.ShloMosaic.TcCoe

theorem agrees : Cert.algebraic_CombineIdeal_CombineReferenceIdeal := by
  intro m ρ m' ρ' _ hm
  refine ⟨fun c => combined m c, ?_, ?_⟩
  · exact (θ_run defs _ _).mono (fun r hr c => ⟨(hr c).1.trans (final m c), (hr c).2⟩) (Value.run_blocks m ρ)
  · refine (θ_run Cert.CombineReferenceIdeal.defs _ _).mono (fun r hr c => ⟨?_, (hr c).2⟩) (Cert.CombineReferenceIdeal.Value.run (F := Ideal) m' ρ')
    obtain ⟨e0, e1, e2⟩ := hm c
    refine (hr c).1.trans ?_
    rw [e0, e1, e2]
    funext i
    obtain ⟨R, j, rfl⟩ : ∃ (R : Fin 24576) (j : Fin 2048), i = (ix2 R j : S24576x2048.Idx) := ⟨i 0, i 1, by funext a; match a with | ⟨0, _⟩ => rfl | ⟨1, _⟩ => rfl⟩
    refine (Cert.CombineReferenceIdeal.Sum.sum_at _ _ _ R j).trans ?_
    show _ = comb (V m c main_v9) (V m c main_v18) (V m c main_v19) R j
    rw [V9, V18, V19]
    rfl

theorem frame_reference : Cert.quiescent_CombineReferenceIdeal := fun m ρ _ =>
  (θ_run Cert.CombineReferenceIdeal.defs _ _).mono (fun r hr => ⟨fun c => (hr c).2, sem_eq_zero_of_no_sems rfl _⟩)
    (Cert.CombineReferenceIdeal.Value.run (F := Ideal) m ρ)

end Cert.CombineIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import proofs.«01_k».proof.Proof.Gen.On_rows_of_tiles
public import proofs.«01_k».proof.Proof.Gen.Quant
public import proofs.«01_k».proof.Proof.Gen.Quant.Frame
public import proofs.«01_k».proof.Proof.Gen.QuantIdeal
public import proofs.«01_k».proof.Proof.Gen.QuantIdeal.Frame
public import proofs.«01_k».proof.Proof.Gen.QuantReferenceIdeal
public import proofs.«01_k».proof.Proof.Gen.QuantReferenceIdeal.Frame
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.RunKernel
public import proofs.«01_k».proof.Proof.ArrayKernelIdeal
public import proofs.«01_k».proof.Proof.RefRunIdeal
public import proofs.«01_k».proof.Proof.Decode
public import proofs.«01_k».proof.Proof.QuantVal
public import proofs.«01_k».proof.Proof.CombineVal
public import Idealize.ShloMosaic.Adequacy
public import Idealize.ShloMosaic.Init
public import Idealize.ShloMosaic.Lib.Quiescent

@[expose] public section

set_option maxRecDepth 16384
set_option Elab.async false

noncomputable section

open Idealize.ShloMosaic Idealize.SL.Sem

namespace Cert.UseKernel

open Cert.Kernel Cert.Kernel.Gen Cert.Kernel.Tab
open Idealize.ShloMosaic.TcCoe

variable (m : (ℓ : Loc nD τ sig) → Buf (Elt Bits) ℓ) (h : Cert.Pre_Kernel m)

/-- The launch memory's tables, in range by the precondition. -/
def tabs : Tabs where
  g := m (((0 : Dev nD).tc : Thread nD τ).loc main_arg0)
  n := m (((0 : Dev nD).tc : Thread nD τ).loc main_arg1)
  hg := (Decode.pre (F := Bits) _ _ _ _ _ _ _ _ (h 0)).1
  hn := (Decode.pre (F := Bits) _ _ _ _ _ _ _ _ (h 0)).2

theorem pinned : Pinned (tabs m h) m := by
  refine ⟨fun c => ?_, fun c => ?_⟩ <;>
  · obtain rfl : c = 0 := Subsingleton.elim (α := Fin 1) c 0
    rfl

end Cert.UseKernel

namespace Cert.UseKernelIdeal

open Cert.KernelIdeal Cert.KernelIdeal.Gen Cert.KernelIdeal.Tab
open Idealize.ShloMosaic.TcCoe

variable (m : (ℓ : Loc nD τ sig) → Buf (Elt Ideal) ℓ) (h : Cert.Pre_KernelIdeal m)

/-- The launch memory's tables, in range by the precondition. -/
def tabs : Tabs where
  g := m (((0 : Dev nD).tc : Thread nD τ).loc main_arg0)
  n := m (((0 : Dev nD).tc : Thread nD τ).loc main_arg1)
  hg := (Decode.pre (F := Ideal) _ _ _ _ _ _ _ _ (h 0)).1
  hn := (Decode.pre (F := Ideal) _ _ _ _ _ _ _ _ (h 0)).2

theorem pinned : Pinned (tabs m h) m := by
  refine ⟨fun c => ?_, fun c => ?_⟩ <;>
  · obtain rfl : c = 0 := Subsingleton.elim (α := Fin 1) c 0
    rfl

end Cert.UseKernelIdeal

namespace Cert.Proof

open Idealize.ShloMosaic.TcCoe

section
open Cert.KernelIdeal Cert.KernelIdeal.Gen Cert.KernelIdeal.Tab Cert.UseKernelIdeal

theorem agrees : Cert.algebraic_KernelIdeal_ReferenceIdeal_on_rows_of_tiles := by
  intro m ρ m' ρ' h hm
  let ch := tabs m h
  have hp : Pinned ch m := pinned m h
  refine ⟨fun c => (dats ch m ρ 0 c).arrAt (6 : Fin 7) (cfgA ch).N, ?_, ?_⟩
  · exact (θ_run defs _ _).mono (fun r hr c => ⟨fun i _ => congrFun ((hr.1 c).1 (6 : Fin 7)) i, hr.2 c⟩)
      (θ_run_and (run_main ch m ρ hp) (unchanged ch m ρ hp))
  · refine (θ_run Cert.ReferenceIdeal.defs _ _).mono (fun r hr c => ⟨fun i hi => ?_, (hr c).2⟩) (Cert.ReferenceIdeal.Val.run m' ρ')
    obtain ⟨e0, e1, e2, e3, e4, e5, e6, e7⟩ := hm c
    obtain rfl : c = (0 : Fin 1) := Subsingleton.elim (α := Fin 1) c 0
    refine (congrFun (hr (0 : Fin 1)).1 i).trans ?_
    obtain ⟨R, j, rfl⟩ : ∃ (R : Fin 51200) (j : Fin 2048), i = ix2 R j := ⟨i 0, i 1, by funext a; match a with | ⟨0, _⟩ => rfl | ⟨1, _⟩ => rfl⟩
    have hR : R.val / 256 < ntn ch := by
      have q := Decode.mask (F := Ideal) _ _ _ _ _ _ _ _ R j hi
      have w : (ch.n (Idealize.ShloMosaic.ix1 (0 : Fin 1))).toInt = (ntn ch : ℤ) := by rw [n_eq, ntw_toInt]
      have q' : ((R.val / 256 : ℕ) : ℤ) < (ntn ch : ℤ) := lt_of_lt_of_eq q w
      exact_mod_cast q'
    have hg : ch.g (Idealize.ShloMosaic.ix1 (⟨R.val / 256, by omega⟩ : Fin 200)) = BitVec.ofNat 32 (gidF ch ⟨R.val / 256, by omega⟩ : Fin 8) := by
      unfold gidF
      exact ((BitVec.ofNat_toNat 32 _).trans (BitVec.setWidth_eq _)).symm
    refine (Cert.ReferenceIdeal.Val.whole_at m' 0 R j (gidF ch ⟨R.val / 256, by omega⟩) ((congrFun e0 _).trans hg)).trans ?_
    refine Eq.trans ?_ (array ch m ρ (0 : Fin 1) ⟨0, lt_of_lt_of_eq (by decide : 0 < 200) N_0.symm⟩ R j hR).symm
    unfold aXs aSc aWgu aSgu aWd aSd
    rw [← e2, ← e3, ← e4, ← e5, ← e6, ← e7]

end

theorem claim : Cert.Claim :=
  ⟨Cert.Kernel.Gen.facts, Cert.KernelIdeal.Gen.facts, Cert.ReferenceIdeal.Gen.facts,
    Cert.Quant.Gen.facts, Cert.QuantIdeal.Gen.facts, Cert.QuantReferenceIdeal.Gen.facts,
    Cert.Combine.Gen.facts, Cert.CombineIdeal.Gen.facts, Cert.CombineReferenceIdeal.Gen.facts,
    Cert.Pre_pre.Gen.facts, Cert.On_rows_of_tiles.Gen.facts,
    fun m ρ h => Cert.Kernel.Tab.frame (Cert.UseKernel.tabs m h) m ρ (Cert.UseKernel.pinned m h),
    fun m ρ h => Cert.KernelIdeal.Tab.frame (Cert.UseKernelIdeal.tabs m h) m ρ (Cert.UseKernelIdeal.pinned m h),
    fun m ρ _ => Cert.ReferenceIdeal.Gen.frame m ρ,
    fun m ρ _ => Cert.Quant.Gen.frame m ρ,
    fun m ρ _ => Cert.QuantIdeal.Gen.frame m ρ,
    fun m ρ _ => Cert.QuantReferenceIdeal.Gen.frame m ρ,
    fun m ρ _ => Cert.Combine.Gen.frame m ρ,
    fun m ρ _ => Cert.CombineIdeal.Gen.frame m ρ,
    Cert.CombineIdeal.Sum.frame_reference,
    trivial, agrees,
    trivial, Cert.QuantIdeal.Codes.agrees,
    trivial, Cert.CombineIdeal.Sum.agrees⟩

end Cert.Proof

end
